-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 512]⟩ ⟨2, ![768, 16384]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![16384]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![768, 512]⟩ ⟨2, ![768, 16384]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x512 : Shape := ⟨2, ![768, 512]⟩
abbrev S512 : Shape := ⟨1, ![512]⟩
abbrev S1x512 : Shape := ⟨2, ![1, 512]⟩
abbrev S32x768 : Shape := ⟨2, ![32, 768]⟩
abbrev S32 : Shape := ⟨1, ![32]⟩
abbrev S_ : Shape := ⟨0, ![]⟩
abbrev S768 : Shape := ⟨1, ![768]⟩
abbrev S1x768 : Shape := ⟨2, ![1, 768]⟩
abbrev S1 : Shape := ⟨1, ![1]⟩
abbrev S768x1 : Shape := ⟨2, ![768, 1]⟩

abbrev nBuf : Space → Nat
  | .hbm => 4
  | .vmem => 4
  | .smem => 0
  | _ => 0

abbrev bufTy : (tb : Table) → Fin (tcTables nBuf tb) → BufTy
  | .hbm, ⟨0, _⟩ => ⟨S768x512, .bf16⟩
  | .hbm, ⟨1, _⟩ => ⟨S512, .bf16⟩
  | .hbm, ⟨2, _⟩ => ⟨S1x512, .bf16⟩
  | .hbm, ⟨3, _⟩ => ⟨S768x512, .f32⟩
  | .local _ .vmem, ⟨0, _⟩ => ⟨S768x512, .bf16⟩
  | .local _ .vmem, ⟨1, _⟩ => ⟨S1x512, .bf16⟩
  | .local _ .vmem, ⟨2, _⟩ => ⟨S768x512, .f32⟩
  | .local _ .vmem, ⟨3, _⟩ => ⟨S32x768, .f32⟩
  | _, _ => ⟨S768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_dev32 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_283 : BitVec 32 := 1#32
  let v415 : BitVec 32 := Scalar.addi v2 c1_i32_283
  let c32_i32_284 : BitVec 32 := 32#32
  let c0_i32_285 : BitVec 32 := 0#32
  let v416 : BitVec 1 := Scalar.cmpi .eq c32_i32_284 c0_i32_285
  let c1_i32_286 : BitVec 32 := 1#32
  let v417 : BitVec 32 := Scalar.select v416 c1_i32_286 c32_i32_284
  let v418 : BitVec 32 := Scalar.remsi v415 v417
  let c0_i32_288 : BitVec 32 := 0#32
  let v420 : BitVec 1 := Scalar.cmpi .slt v418 c0_i32_288
  let c0_i32_289 : BitVec 32 := 0#32
  let v421 : BitVec 1 := Scalar.cmpi .slt v417 c0_i32_289
  let v422 : BitVec 1 := Scalar.xori v420 v421
  let c0_i32_287 : BitVec 32 := 0#32
  let v419 : BitVec 1 := Scalar.cmpi .ne v418 c0_i32_287
  let v423 : BitVec 1 := Scalar.andi v422 v419
  let v424 : BitVec 32 := Scalar.addi v418 v417
  let v425 : BitVec 32 := Scalar.select v423 v424 v418
  let c1_i32_292 : BitVec 32 := 1#32
  let v426 : BitVec 32 := Scalar.muli v425 c1_i32_292
  let v427 : BitVec 32 := Scalar.addi c0_i32_293 v426
  v427.toNat
def k0_dev33 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_298 : BitVec 32 := 2#32
  let v434 : BitVec 32 := Scalar.addi v2 c2_i32_298
  let c32_i32_299 : BitVec 32 := 32#32
  let c0_i32_300 : BitVec 32 := 0#32
  let v435 : BitVec 1 := Scalar.cmpi .eq c32_i32_299 c0_i32_300
  let c1_i32_301 : BitVec 32 := 1#32
  let v436 : BitVec 32 := Scalar.select v435 c1_i32_301 c32_i32_299
  let v437 : BitVec 32 := Scalar.remsi v434 v436
  let c0_i32_303 : BitVec 32 := 0#32
  let v439 : BitVec 1 := Scalar.cmpi .slt v437 c0_i32_303
  let c0_i32_304 : BitVec 32 := 0#32
  let v440 : BitVec 1 := Scalar.cmpi .slt v436 c0_i32_304
  let v441 : BitVec 1 := Scalar.xori v439 v440
  let c0_i32_302 : BitVec 32 := 0#32
  let v438 : BitVec 1 := Scalar.cmpi .ne v437 c0_i32_302
  let v442 : BitVec 1 := Scalar.andi v441 v438
  let v443 : BitVec 32 := Scalar.addi v437 v436
  let v444 : BitVec 32 := Scalar.select v442 v443 v437
  let c1_i32_307 : BitVec 32 := 1#32
  let v445 : BitVec 32 := Scalar.muli v444 c1_i32_307
  let v446 : BitVec 32 := Scalar.addi c0_i32_308 v445
  v446.toNat
def k0_dev34 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_313 : BitVec 32 := 3#32
  let v453 : BitVec 32 := Scalar.addi v2 c3_i32_313
  let c32_i32_314 : BitVec 32 := 32#32
  let c0_i32_315 : BitVec 32 := 0#32
  let v454 : BitVec 1 := Scalar.cmpi .eq c32_i32_314 c0_i32_315
  let c1_i32_316 : BitVec 32 := 1#32
  let v455 : BitVec 32 := Scalar.select v454 c1_i32_316 c32_i32_314
  let v456 : BitVec 32 := Scalar.remsi v453 v455
  let c0_i32_318 : BitVec 32 := 0#32
  let v458 : BitVec 1 := Scalar.cmpi .slt v456 c0_i32_318
  let c0_i32_319 : BitVec 32 := 0#32
  let v459 : BitVec 1 := Scalar.cmpi .slt v455 c0_i32_319
  let v460 : BitVec 1 := Scalar.xori v458 v459
  let c0_i32_317 : BitVec 32 := 0#32
  let v457 : BitVec 1 := Scalar.cmpi .ne v456 c0_i32_317
  let v461 : BitVec 1 := Scalar.andi v460 v457
  let v462 : BitVec 32 := Scalar.addi v456 v455
  let v463 : BitVec 32 := Scalar.select v461 v462 v456
  let c1_i32_322 : BitVec 32 := 1#32
  let v464 : BitVec 32 := Scalar.muli v463 c1_i32_322
  let v465 : BitVec 32 := Scalar.addi c0_i32_323 v464
  v465.toNat
def k0_dev35 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_328 : BitVec 32 := 4#32
  let v472 : BitVec 32 := Scalar.addi v2 c4_i32_328
  let c32_i32_329 : BitVec 32 := 32#32
  let c0_i32_330 : BitVec 32 := 0#32
  let v473 : BitVec 1 := Scalar.cmpi .eq c32_i32_329 c0_i32_330
  let c1_i32_331 : BitVec 32 := 1#32
  let v474 : BitVec 32 := Scalar.select v473 c1_i32_331 c32_i32_329
  let v475 : BitVec 32 := Scalar.remsi v472 v474
  let c0_i32_333 : BitVec 32 := 0#32
  let v477 : BitVec 1 := Scalar.cmpi .slt v475 c0_i32_333
  let c0_i32_334 : BitVec 32 := 0#32
  let v478 : BitVec 1 := Scalar.cmpi .slt v474 c0_i32_334
  let v479 : BitVec 1 := Scalar.xori v477 v478
  let c0_i32_332 : BitVec 32 := 0#32
  let v476 : BitVec 1 := Scalar.cmpi .ne v475 c0_i32_332
  let v480 : BitVec 1 := Scalar.andi v479 v476
  let v481 : BitVec 32 := Scalar.addi v475 v474
  let v482 : BitVec 32 := Scalar.select v480 v481 v475
  let c1_i32_337 : BitVec 32 := 1#32
  let v483 : BitVec 32 := Scalar.muli v482 c1_i32_337
  let v484 : BitVec 32 := Scalar.addi c0_i32_338 v483
  v484.toNat
def k0_dev36 (d0 : Dev nD) : Nat :=
  let c0_i32_353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_343 : BitVec 32 := 5#32
  let v491 : BitVec 32 := Scalar.addi v2 c5_i32_343
  let c32_i32_344 : BitVec 32 := 32#32
  let c0_i32_345 : BitVec 32 := 0#32
  let v492 : BitVec 1 := Scalar.cmpi .eq c32_i32_344 c0_i32_345
  let c1_i32_346 : BitVec 32 := 1#32
  let v493 : BitVec 32 := Scalar.select v492 c1_i32_346 c32_i32_344
  let v494 : BitVec 32 := Scalar.remsi v491 v493
  let c0_i32_348 : BitVec 32 := 0#32
  let v496 : BitVec 1 := Scalar.cmpi .slt v494 c0_i32_348
  let c0_i32_349 : BitVec 32 := 0#32
  let v497 : BitVec 1 := Scalar.cmpi .slt v493 c0_i32_349
  let v498 : BitVec 1 := Scalar.xori v496 v497
  let c0_i32_347 : BitVec 32 := 0#32
  let v495 : BitVec 1 := Scalar.cmpi .ne v494 c0_i32_347
  let v499 : BitVec 1 := Scalar.andi v498 v495
  let v500 : BitVec 32 := Scalar.addi v494 v493
  let v501 : BitVec 32 := Scalar.select v499 v500 v494
  let c1_i32_352 : BitVec 32 := 1#32
  let v502 : BitVec 32 := Scalar.muli v501 c1_i32_352
  let v503 : BitVec 32 := Scalar.addi c0_i32_353 v502
  v503.toNat
def k0_dev37 (d0 : Dev nD) : Nat :=
  let c0_i32_368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_358 : BitVec 32 := 6#32
  let v510 : BitVec 32 := Scalar.addi v2 c6_i32_358
  let c32_i32_359 : BitVec 32 := 32#32
  let c0_i32_360 : BitVec 32 := 0#32
  let v511 : BitVec 1 := Scalar.cmpi .eq c32_i32_359 c0_i32_360
  let c1_i32_361 : BitVec 32 := 1#32
  let v512 : BitVec 32 := Scalar.select v511 c1_i32_361 c32_i32_359
  let v513 : BitVec 32 := Scalar.remsi v510 v512
  let c0_i32_363 : BitVec 32 := 0#32
  let v515 : BitVec 1 := Scalar.cmpi .slt v513 c0_i32_363
  let c0_i32_364 : BitVec 32 := 0#32
  let v516 : BitVec 1 := Scalar.cmpi .slt v512 c0_i32_364
  let v517 : BitVec 1 := Scalar.xori v515 v516
  let c0_i32_362 : BitVec 32 := 0#32
  let v514 : BitVec 1 := Scalar.cmpi .ne v513 c0_i32_362
  let v518 : BitVec 1 := Scalar.andi v517 v514
  let v519 : BitVec 32 := Scalar.addi v513 v512
  let v520 : BitVec 32 := Scalar.select v518 v519 v513
  let c1_i32_367 : BitVec 32 := 1#32
  let v521 : BitVec 32 := Scalar.muli v520 c1_i32_367
  let v522 : BitVec 32 := Scalar.addi c0_i32_368 v521
  v522.toNat
def k0_dev38 (d0 : Dev nD) : Nat :=
  let c0_i32_383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_373 : BitVec 32 := 7#32
  let v529 : BitVec 32 := Scalar.addi v2 c7_i32_373
  let c32_i32_374 : BitVec 32 := 32#32
  let c0_i32_375 : BitVec 32 := 0#32
  let v530 : BitVec 1 := Scalar.cmpi .eq c32_i32_374 c0_i32_375
  let c1_i32_376 : BitVec 32 := 1#32
  let v531 : BitVec 32 := Scalar.select v530 c1_i32_376 c32_i32_374
  let v532 : BitVec 32 := Scalar.remsi v529 v531
  let c0_i32_378 : BitVec 32 := 0#32
  let v534 : BitVec 1 := Scalar.cmpi .slt v532 c0_i32_378
  let c0_i32_379 : BitVec 32 := 0#32
  let v535 : BitVec 1 := Scalar.cmpi .slt v531 c0_i32_379
  let v536 : BitVec 1 := Scalar.xori v534 v535
  let c0_i32_377 : BitVec 32 := 0#32
  let v533 : BitVec 1 := Scalar.cmpi .ne v532 c0_i32_377
  let v537 : BitVec 1 := Scalar.andi v536 v533
  let v538 : BitVec 32 := Scalar.addi v532 v531
  let v539 : BitVec 32 := Scalar.select v537 v538 v532
  let c1_i32_382 : BitVec 32 := 1#32
  let v540 : BitVec 32 := Scalar.muli v539 c1_i32_382
  let v541 : BitVec 32 := Scalar.addi c0_i32_383 v540
  v541.toNat
def k0_dev39 (d0 : Dev nD) : Nat :=
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_388 : BitVec 32 := 8#32
  let v548 : BitVec 32 := Scalar.addi v2 c8_i32_388
  let c32_i32_389 : BitVec 32 := 32#32
  let c0_i32_390 : BitVec 32 := 0#32
  let v549 : BitVec 1 := Scalar.cmpi .eq c32_i32_389 c0_i32_390
  let c1_i32_391 : BitVec 32 := 1#32
  let v550 : BitVec 32 := Scalar.select v549 c1_i32_391 c32_i32_389
  let v551 : BitVec 32 := Scalar.remsi v548 v550
  let c0_i32_393 : BitVec 32 := 0#32
  let v553 : BitVec 1 := Scalar.cmpi .slt v551 c0_i32_393
  let c0_i32_394 : BitVec 32 := 0#32
  let v554 : BitVec 1 := Scalar.cmpi .slt v550 c0_i32_394
  let v555 : BitVec 1 := Scalar.xori v553 v554
  let c0_i32_392 : BitVec 32 := 0#32
  let v552 : BitVec 1 := Scalar.cmpi .ne v551 c0_i32_392
  let v556 : BitVec 1 := Scalar.andi v555 v552
  let v557 : BitVec 32 := Scalar.addi v551 v550
  let v558 : BitVec 32 := Scalar.select v556 v557 v551
  let c1_i32_397 : BitVec 32 := 1#32
  let v559 : BitVec 32 := Scalar.muli v558 c1_i32_397
  let v560 : BitVec 32 := Scalar.addi c0_i32_398 v559
  v560.toNat
def k0_dev40 (d0 : Dev nD) : Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_403 : BitVec 32 := 9#32
  let v567 : BitVec 32 := Scalar.addi v2 c9_i32_403
  let c32_i32_404 : BitVec 32 := 32#32
  let c0_i32_405 : BitVec 32 := 0#32
  let v568 : BitVec 1 := Scalar.cmpi .eq c32_i32_404 c0_i32_405
  let c1_i32_406 : BitVec 32 := 1#32
  let v569 : BitVec 32 := Scalar.select v568 c1_i32_406 c32_i32_404
  let v570 : BitVec 32 := Scalar.remsi v567 v569
  let c0_i32_408 : BitVec 32 := 0#32
  let v572 : BitVec 1 := Scalar.cmpi .slt v570 c0_i32_408
  let c0_i32_409 : BitVec 32 := 0#32
  let v573 : BitVec 1 := Scalar.cmpi .slt v569 c0_i32_409
  let v574 : BitVec 1 := Scalar.xori v572 v573
  let c0_i32_407 : BitVec 32 := 0#32
  let v571 : BitVec 1 := Scalar.cmpi .ne v570 c0_i32_407
  let v575 : BitVec 1 := Scalar.andi v574 v571
  let v576 : BitVec 32 := Scalar.addi v570 v569
  let v577 : BitVec 32 := Scalar.select v575 v576 v570
  let c1_i32_412 : BitVec 32 := 1#32
  let v578 : BitVec 32 := Scalar.muli v577 c1_i32_412
  let v579 : BitVec 32 := Scalar.addi c0_i32_413 v578
  v579.toNat
def k0_dev41 (d0 : Dev nD) : Nat :=
  let c0_i32_428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_418 : BitVec 32 := 10#32
  let v586 : BitVec 32 := Scalar.addi v2 c10_i32_418
  let c32_i32_419 : BitVec 32 := 32#32
  let c0_i32_420 : BitVec 32 := 0#32
  let v587 : BitVec 1 := Scalar.cmpi .eq c32_i32_419 c0_i32_420
  let c1_i32_421 : BitVec 32 := 1#32
  let v588 : BitVec 32 := Scalar.select v587 c1_i32_421 c32_i32_419
  let v589 : BitVec 32 := Scalar.remsi v586 v588
  let c0_i32_423 : BitVec 32 := 0#32
  let v591 : BitVec 1 := Scalar.cmpi .slt v589 c0_i32_423
  let c0_i32_424 : BitVec 32 := 0#32
  let v592 : BitVec 1 := Scalar.cmpi .slt v588 c0_i32_424
  let v593 : BitVec 1 := Scalar.xori v591 v592
  let c0_i32_422 : BitVec 32 := 0#32
  let v590 : BitVec 1 := Scalar.cmpi .ne v589 c0_i32_422
  let v594 : BitVec 1 := Scalar.andi v593 v590
  let v595 : BitVec 32 := Scalar.addi v589 v588
  let v596 : BitVec 32 := Scalar.select v594 v595 v589
  let c1_i32_427 : BitVec 32 := 1#32
  let v597 : BitVec 32 := Scalar.muli v596 c1_i32_427
  let v598 : BitVec 32 := Scalar.addi c0_i32_428 v597
  v598.toNat
def k0_dev42 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_433 : BitVec 32 := 11#32
  let v605 : BitVec 32 := Scalar.addi v2 c11_i32_433
  let c32_i32_434 : BitVec 32 := 32#32
  let c0_i32_435 : BitVec 32 := 0#32
  let v606 : BitVec 1 := Scalar.cmpi .eq c32_i32_434 c0_i32_435
  let c1_i32_436 : BitVec 32 := 1#32
  let v607 : BitVec 32 := Scalar.select v606 c1_i32_436 c32_i32_434
  let v608 : BitVec 32 := Scalar.remsi v605 v607
  let c0_i32_438 : BitVec 32 := 0#32
  let v610 : BitVec 1 := Scalar.cmpi .slt v608 c0_i32_438
  let c0_i32_439 : BitVec 32 := 0#32
  let v611 : BitVec 1 := Scalar.cmpi .slt v607 c0_i32_439
  let v612 : BitVec 1 := Scalar.xori v610 v611
  let c0_i32_437 : BitVec 32 := 0#32
  let v609 : BitVec 1 := Scalar.cmpi .ne v608 c0_i32_437
  let v613 : BitVec 1 := Scalar.andi v612 v609
  let v614 : BitVec 32 := Scalar.addi v608 v607
  let v615 : BitVec 32 := Scalar.select v613 v614 v608
  let c1_i32_442 : BitVec 32 := 1#32
  let v616 : BitVec 32 := Scalar.muli v615 c1_i32_442
  let v617 : BitVec 32 := Scalar.addi c0_i32_443 v616
  v617.toNat
def k0_dev43 (d0 : Dev nD) : Nat :=
  let c0_i32_458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_448 : BitVec 32 := 12#32
  let v624 : BitVec 32 := Scalar.addi v2 c12_i32_448
  let c32_i32_449 : BitVec 32 := 32#32
  let c0_i32_450 : BitVec 32 := 0#32
  let v625 : BitVec 1 := Scalar.cmpi .eq c32_i32_449 c0_i32_450
  let c1_i32_451 : BitVec 32 := 1#32
  let v626 : BitVec 32 := Scalar.select v625 c1_i32_451 c32_i32_449
  let v627 : BitVec 32 := Scalar.remsi v624 v626
  let c0_i32_453 : BitVec 32 := 0#32
  let v629 : BitVec 1 := Scalar.cmpi .slt v627 c0_i32_453
  let c0_i32_454 : BitVec 32 := 0#32
  let v630 : BitVec 1 := Scalar.cmpi .slt v626 c0_i32_454
  let v631 : BitVec 1 := Scalar.xori v629 v630
  let c0_i32_452 : BitVec 32 := 0#32
  let v628 : BitVec 1 := Scalar.cmpi .ne v627 c0_i32_452
  let v632 : BitVec 1 := Scalar.andi v631 v628
  let v633 : BitVec 32 := Scalar.addi v627 v626
  let v634 : BitVec 32 := Scalar.select v632 v633 v627
  let c1_i32_457 : BitVec 32 := 1#32
  let v635 : BitVec 32 := Scalar.muli v634 c1_i32_457
  let v636 : BitVec 32 := Scalar.addi c0_i32_458 v635
  v636.toNat
def k0_dev44 (d0 : Dev nD) : Nat :=
  let c0_i32_473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_463 : BitVec 32 := 13#32
  let v643 : BitVec 32 := Scalar.addi v2 c13_i32_463
  let c32_i32_464 : BitVec 32 := 32#32
  let c0_i32_465 : BitVec 32 := 0#32
  let v644 : BitVec 1 := Scalar.cmpi .eq c32_i32_464 c0_i32_465
  let c1_i32_466 : BitVec 32 := 1#32
  let v645 : BitVec 32 := Scalar.select v644 c1_i32_466 c32_i32_464
  let v646 : BitVec 32 := Scalar.remsi v643 v645
  let c0_i32_468 : BitVec 32 := 0#32
  let v648 : BitVec 1 := Scalar.cmpi .slt v646 c0_i32_468
  let c0_i32_469 : BitVec 32 := 0#32
  let v649 : BitVec 1 := Scalar.cmpi .slt v645 c0_i32_469
  let v650 : BitVec 1 := Scalar.xori v648 v649
  let c0_i32_467 : BitVec 32 := 0#32
  let v647 : BitVec 1 := Scalar.cmpi .ne v646 c0_i32_467
  let v651 : BitVec 1 := Scalar.andi v650 v647
  let v652 : BitVec 32 := Scalar.addi v646 v645
  let v653 : BitVec 32 := Scalar.select v651 v652 v646
  let c1_i32_472 : BitVec 32 := 1#32
  let v654 : BitVec 32 := Scalar.muli v653 c1_i32_472
  let v655 : BitVec 32 := Scalar.addi c0_i32_473 v654
  v655.toNat
def k0_dev45 (d0 : Dev nD) : Nat :=
  let c0_i32_488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_478 : BitVec 32 := 14#32
  let v662 : BitVec 32 := Scalar.addi v2 c14_i32_478
  let c32_i32_479 : BitVec 32 := 32#32
  let c0_i32_480 : BitVec 32 := 0#32
  let v663 : BitVec 1 := Scalar.cmpi .eq c32_i32_479 c0_i32_480
  let c1_i32_481 : BitVec 32 := 1#32
  let v664 : BitVec 32 := Scalar.select v663 c1_i32_481 c32_i32_479
  let v665 : BitVec 32 := Scalar.remsi v662 v664
  let c0_i32_483 : BitVec 32 := 0#32
  let v667 : BitVec 1 := Scalar.cmpi .slt v665 c0_i32_483
  let c0_i32_484 : BitVec 32 := 0#32
  let v668 : BitVec 1 := Scalar.cmpi .slt v664 c0_i32_484
  let v669 : BitVec 1 := Scalar.xori v667 v668
  let c0_i32_482 : BitVec 32 := 0#32
  let v666 : BitVec 1 := Scalar.cmpi .ne v665 c0_i32_482
  let v670 : BitVec 1 := Scalar.andi v669 v666
  let v671 : BitVec 32 := Scalar.addi v665 v664
  let v672 : BitVec 32 := Scalar.select v670 v671 v665
  let c1_i32_487 : BitVec 32 := 1#32
  let v673 : BitVec 32 := Scalar.muli v672 c1_i32_487
  let v674 : BitVec 32 := Scalar.addi c0_i32_488 v673
  v674.toNat
def k0_dev46 (d0 : Dev nD) : Nat :=
  let c0_i32_503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_493 : BitVec 32 := 15#32
  let v681 : BitVec 32 := Scalar.addi v2 c15_i32_493
  let c32_i32_494 : BitVec 32 := 32#32
  let c0_i32_495 : BitVec 32 := 0#32
  let v682 : BitVec 1 := Scalar.cmpi .eq c32_i32_494 c0_i32_495
  let c1_i32_496 : BitVec 32 := 1#32
  let v683 : BitVec 32 := Scalar.select v682 c1_i32_496 c32_i32_494
  let v684 : BitVec 32 := Scalar.remsi v681 v683
  let c0_i32_498 : BitVec 32 := 0#32
  let v686 : BitVec 1 := Scalar.cmpi .slt v684 c0_i32_498
  let c0_i32_499 : BitVec 32 := 0#32
  let v687 : BitVec 1 := Scalar.cmpi .slt v683 c0_i32_499
  let v688 : BitVec 1 := Scalar.xori v686 v687
  let c0_i32_497 : BitVec 32 := 0#32
  let v685 : BitVec 1 := Scalar.cmpi .ne v684 c0_i32_497
  let v689 : BitVec 1 := Scalar.andi v688 v685
  let v690 : BitVec 32 := Scalar.addi v684 v683
  let v691 : BitVec 32 := Scalar.select v689 v690 v684
  let c1_i32_502 : BitVec 32 := 1#32
  let v692 : BitVec 32 := Scalar.muli v691 c1_i32_502
  let v693 : BitVec 32 := Scalar.addi c0_i32_503 v692
  v693.toNat
def k0_dev47 (d0 : Dev nD) : Nat :=
  let c0_i32_518 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_508 : BitVec 32 := 16#32
  let v700 : BitVec 32 := Scalar.addi v2 c16_i32_508
  let c32_i32_509 : BitVec 32 := 32#32
  let c0_i32_510 : BitVec 32 := 0#32
  let v701 : BitVec 1 := Scalar.cmpi .eq c32_i32_509 c0_i32_510
  let c1_i32_511 : BitVec 32 := 1#32
  let v702 : BitVec 32 := Scalar.select v701 c1_i32_511 c32_i32_509
  let v703 : BitVec 32 := Scalar.remsi v700 v702
  let c0_i32_513 : BitVec 32 := 0#32
  let v705 : BitVec 1 := Scalar.cmpi .slt v703 c0_i32_513
  let c0_i32_514 : BitVec 32 := 0#32
  let v706 : BitVec 1 := Scalar.cmpi .slt v702 c0_i32_514
  let v707 : BitVec 1 := Scalar.xori v705 v706
  let c0_i32_512 : BitVec 32 := 0#32
  let v704 : BitVec 1 := Scalar.cmpi .ne v703 c0_i32_512
  let v708 : BitVec 1 := Scalar.andi v707 v704
  let v709 : BitVec 32 := Scalar.addi v703 v702
  let v710 : BitVec 32 := Scalar.select v708 v709 v703
  let c1_i32_517 : BitVec 32 := 1#32
  let v711 : BitVec 32 := Scalar.muli v710 c1_i32_517
  let v712 : BitVec 32 := Scalar.addi c0_i32_518 v711
  v712.toNat
def k0_dev48 (d0 : Dev nD) : Nat :=
  let c0_i32_533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_523 : BitVec 32 := 17#32
  let v719 : BitVec 32 := Scalar.addi v2 c17_i32_523
  let c32_i32_524 : BitVec 32 := 32#32
  let c0_i32_525 : BitVec 32 := 0#32
  let v720 : BitVec 1 := Scalar.cmpi .eq c32_i32_524 c0_i32_525
  let c1_i32_526 : BitVec 32 := 1#32
  let v721 : BitVec 32 := Scalar.select v720 c1_i32_526 c32_i32_524
  let v722 : BitVec 32 := Scalar.remsi v719 v721
  let c0_i32_528 : BitVec 32 := 0#32
  let v724 : BitVec 1 := Scalar.cmpi .slt v722 c0_i32_528
  let c0_i32_529 : BitVec 32 := 0#32
  let v725 : BitVec 1 := Scalar.cmpi .slt v721 c0_i32_529
  let v726 : BitVec 1 := Scalar.xori v724 v725
  let c0_i32_527 : BitVec 32 := 0#32
  let v723 : BitVec 1 := Scalar.cmpi .ne v722 c0_i32_527
  let v727 : BitVec 1 := Scalar.andi v726 v723
  let v728 : BitVec 32 := Scalar.addi v722 v721
  let v729 : BitVec 32 := Scalar.select v727 v728 v722
  let c1_i32_532 : BitVec 32 := 1#32
  let v730 : BitVec 32 := Scalar.muli v729 c1_i32_532
  let v731 : BitVec 32 := Scalar.addi c0_i32_533 v730
  v731.toNat
def k0_dev49 (d0 : Dev nD) : Nat :=
  let c0_i32_548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_538 : BitVec 32 := 18#32
  let v738 : BitVec 32 := Scalar.addi v2 c18_i32_538
  let c32_i32_539 : BitVec 32 := 32#32
  let c0_i32_540 : BitVec 32 := 0#32
  let v739 : BitVec 1 := Scalar.cmpi .eq c32_i32_539 c0_i32_540
  let c1_i32_541 : BitVec 32 := 1#32
  let v740 : BitVec 32 := Scalar.select v739 c1_i32_541 c32_i32_539
  let v741 : BitVec 32 := Scalar.remsi v738 v740
  let c0_i32_543 : BitVec 32 := 0#32
  let v743 : BitVec 1 := Scalar.cmpi .slt v741 c0_i32_543
  let c0_i32_544 : BitVec 32 := 0#32
  let v744 : BitVec 1 := Scalar.cmpi .slt v740 c0_i32_544
  let v745 : BitVec 1 := Scalar.xori v743 v744
  let c0_i32_542 : BitVec 32 := 0#32
  let v742 : BitVec 1 := Scalar.cmpi .ne v741 c0_i32_542
  let v746 : BitVec 1 := Scalar.andi v745 v742
  let v747 : BitVec 32 := Scalar.addi v741 v740
  let v748 : BitVec 32 := Scalar.select v746 v747 v741
  let c1_i32_547 : BitVec 32 := 1#32
  let v749 : BitVec 32 := Scalar.muli v748 c1_i32_547
  let v750 : BitVec 32 := Scalar.addi c0_i32_548 v749
  v750.toNat
def k0_dev50 (d0 : Dev nD) : Nat :=
  let c0_i32_563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_553 : BitVec 32 := 19#32
  let v757 : BitVec 32 := Scalar.addi v2 c19_i32_553
  let c32_i32_554 : BitVec 32 := 32#32
  let c0_i32_555 : BitVec 32 := 0#32
  let v758 : BitVec 1 := Scalar.cmpi .eq c32_i32_554 c0_i32_555
  let c1_i32_556 : BitVec 32 := 1#32
  let v759 : BitVec 32 := Scalar.select v758 c1_i32_556 c32_i32_554
  let v760 : BitVec 32 := Scalar.remsi v757 v759
  let c0_i32_558 : BitVec 32 := 0#32
  let v762 : BitVec 1 := Scalar.cmpi .slt v760 c0_i32_558
  let c0_i32_559 : BitVec 32 := 0#32
  let v763 : BitVec 1 := Scalar.cmpi .slt v759 c0_i32_559
  let v764 : BitVec 1 := Scalar.xori v762 v763
  let c0_i32_557 : BitVec 32 := 0#32
  let v761 : BitVec 1 := Scalar.cmpi .ne v760 c0_i32_557
  let v765 : BitVec 1 := Scalar.andi v764 v761
  let v766 : BitVec 32 := Scalar.addi v760 v759
  let v767 : BitVec 32 := Scalar.select v765 v766 v760
  let c1_i32_562 : BitVec 32 := 1#32
  let v768 : BitVec 32 := Scalar.muli v767 c1_i32_562
  let v769 : BitVec 32 := Scalar.addi c0_i32_563 v768
  v769.toNat
def k0_dev51 (d0 : Dev nD) : Nat :=
  let c0_i32_578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_568 : BitVec 32 := 20#32
  let v776 : BitVec 32 := Scalar.addi v2 c20_i32_568
  let c32_i32_569 : BitVec 32 := 32#32
  let c0_i32_570 : BitVec 32 := 0#32
  let v777 : BitVec 1 := Scalar.cmpi .eq c32_i32_569 c0_i32_570
  let c1_i32_571 : BitVec 32 := 1#32
  let v778 : BitVec 32 := Scalar.select v777 c1_i32_571 c32_i32_569
  let v779 : BitVec 32 := Scalar.remsi v776 v778
  let c0_i32_573 : BitVec 32 := 0#32
  let v781 : BitVec 1 := Scalar.cmpi .slt v779 c0_i32_573
  let c0_i32_574 : BitVec 32 := 0#32
  let v782 : BitVec 1 := Scalar.cmpi .slt v778 c0_i32_574
  let v783 : BitVec 1 := Scalar.xori v781 v782
  let c0_i32_572 : BitVec 32 := 0#32
  let v780 : BitVec 1 := Scalar.cmpi .ne v779 c0_i32_572
  let v784 : BitVec 1 := Scalar.andi v783 v780
  let v785 : BitVec 32 := Scalar.addi v779 v778
  let v786 : BitVec 32 := Scalar.select v784 v785 v779
  let c1_i32_577 : BitVec 32 := 1#32
  let v787 : BitVec 32 := Scalar.muli v786 c1_i32_577
  let v788 : BitVec 32 := Scalar.addi c0_i32_578 v787
  v788.toNat
def k0_dev52 (d0 : Dev nD) : Nat :=
  let c0_i32_593 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_583 : BitVec 32 := 21#32
  let v795 : BitVec 32 := Scalar.addi v2 c21_i32_583
  let c32_i32_584 : BitVec 32 := 32#32
  let c0_i32_585 : BitVec 32 := 0#32
  let v796 : BitVec 1 := Scalar.cmpi .eq c32_i32_584 c0_i32_585
  let c1_i32_586 : BitVec 32 := 1#32
  let v797 : BitVec 32 := Scalar.select v796 c1_i32_586 c32_i32_584
  let v798 : BitVec 32 := Scalar.remsi v795 v797
  let c0_i32_588 : BitVec 32 := 0#32
  let v800 : BitVec 1 := Scalar.cmpi .slt v798 c0_i32_588
  let c0_i32_589 : BitVec 32 := 0#32
  let v801 : BitVec 1 := Scalar.cmpi .slt v797 c0_i32_589
  let v802 : BitVec 1 := Scalar.xori v800 v801
  let c0_i32_587 : BitVec 32 := 0#32
  let v799 : BitVec 1 := Scalar.cmpi .ne v798 c0_i32_587
  let v803 : BitVec 1 := Scalar.andi v802 v799
  let v804 : BitVec 32 := Scalar.addi v798 v797
  let v805 : BitVec 32 := Scalar.select v803 v804 v798
  let c1_i32_592 : BitVec 32 := 1#32
  let v806 : BitVec 32 := Scalar.muli v805 c1_i32_592
  let v807 : BitVec 32 := Scalar.addi c0_i32_593 v806
  v807.toNat
def k0_dev53 (d0 : Dev nD) : Nat :=
  let c0_i32_608 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_598 : BitVec 32 := 22#32
  let v814 : BitVec 32 := Scalar.addi v2 c22_i32_598
  let c32_i32_599 : BitVec 32 := 32#32
  let c0_i32_600 : BitVec 32 := 0#32
  let v815 : BitVec 1 := Scalar.cmpi .eq c32_i32_599 c0_i32_600
  let c1_i32_601 : BitVec 32 := 1#32
  let v816 : BitVec 32 := Scalar.select v815 c1_i32_601 c32_i32_599
  let v817 : BitVec 32 := Scalar.remsi v814 v816
  let c0_i32_603 : BitVec 32 := 0#32
  let v819 : BitVec 1 := Scalar.cmpi .slt v817 c0_i32_603
  let c0_i32_604 : BitVec 32 := 0#32
  let v820 : BitVec 1 := Scalar.cmpi .slt v816 c0_i32_604
  let v821 : BitVec 1 := Scalar.xori v819 v820
  let c0_i32_602 : BitVec 32 := 0#32
  let v818 : BitVec 1 := Scalar.cmpi .ne v817 c0_i32_602
  let v822 : BitVec 1 := Scalar.andi v821 v818
  let v823 : BitVec 32 := Scalar.addi v817 v816
  let v824 : BitVec 32 := Scalar.select v822 v823 v817
  let c1_i32_607 : BitVec 32 := 1#32
  let v825 : BitVec 32 := Scalar.muli v824 c1_i32_607
  let v826 : BitVec 32 := Scalar.addi c0_i32_608 v825
  v826.toNat
def k0_dev54 (d0 : Dev nD) : Nat :=
  let c0_i32_623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_613 : BitVec 32 := 23#32
  let v833 : BitVec 32 := Scalar.addi v2 c23_i32_613
  let c32_i32_614 : BitVec 32 := 32#32
  let c0_i32_615 : BitVec 32 := 0#32
  let v834 : BitVec 1 := Scalar.cmpi .eq c32_i32_614 c0_i32_615
  let c1_i32_616 : BitVec 32 := 1#32
  let v835 : BitVec 32 := Scalar.select v834 c1_i32_616 c32_i32_614
  let v836 : BitVec 32 := Scalar.remsi v833 v835
  let c0_i32_618 : BitVec 32 := 0#32
  let v838 : BitVec 1 := Scalar.cmpi .slt v836 c0_i32_618
  let c0_i32_619 : BitVec 32 := 0#32
  let v839 : BitVec 1 := Scalar.cmpi .slt v835 c0_i32_619
  let v840 : BitVec 1 := Scalar.xori v838 v839
  let c0_i32_617 : BitVec 32 := 0#32
  let v837 : BitVec 1 := Scalar.cmpi .ne v836 c0_i32_617
  let v841 : BitVec 1 := Scalar.andi v840 v837
  let v842 : BitVec 32 := Scalar.addi v836 v835
  let v843 : BitVec 32 := Scalar.select v841 v842 v836
  let c1_i32_622 : BitVec 32 := 1#32
  let v844 : BitVec 32 := Scalar.muli v843 c1_i32_622
  let v845 : BitVec 32 := Scalar.addi c0_i32_623 v844
  v845.toNat
def k0_dev55 (d0 : Dev nD) : Nat :=
  let c0_i32_638 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_628 : BitVec 32 := 24#32
  let v852 : BitVec 32 := Scalar.addi v2 c24_i32_628
  let c32_i32_629 : BitVec 32 := 32#32
  let c0_i32_630 : BitVec 32 := 0#32
  let v853 : BitVec 1 := Scalar.cmpi .eq c32_i32_629 c0_i32_630
  let c1_i32_631 : BitVec 32 := 1#32
  let v854 : BitVec 32 := Scalar.select v853 c1_i32_631 c32_i32_629
  let v855 : BitVec 32 := Scalar.remsi v852 v854
  let c0_i32_633 : BitVec 32 := 0#32
  let v857 : BitVec 1 := Scalar.cmpi .slt v855 c0_i32_633
  let c0_i32_634 : BitVec 32 := 0#32
  let v858 : BitVec 1 := Scalar.cmpi .slt v854 c0_i32_634
  let v859 : BitVec 1 := Scalar.xori v857 v858
  let c0_i32_632 : BitVec 32 := 0#32
  let v856 : BitVec 1 := Scalar.cmpi .ne v855 c0_i32_632
  let v860 : BitVec 1 := Scalar.andi v859 v856
  let v861 : BitVec 32 := Scalar.addi v855 v854
  let v862 : BitVec 32 := Scalar.select v860 v861 v855
  let c1_i32_637 : BitVec 32 := 1#32
  let v863 : BitVec 32 := Scalar.muli v862 c1_i32_637
  let v864 : BitVec 32 := Scalar.addi c0_i32_638 v863
  v864.toNat
def k0_dev56 (d0 : Dev nD) : Nat :=
  let c0_i32_653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_643 : BitVec 32 := 25#32
  let v871 : BitVec 32 := Scalar.addi v2 c25_i32_643
  let c32_i32_644 : BitVec 32 := 32#32
  let c0_i32_645 : BitVec 32 := 0#32
  let v872 : BitVec 1 := Scalar.cmpi .eq c32_i32_644 c0_i32_645
  let c1_i32_646 : BitVec 32 := 1#32
  let v873 : BitVec 32 := Scalar.select v872 c1_i32_646 c32_i32_644
  let v874 : BitVec 32 := Scalar.remsi v871 v873
  let c0_i32_648 : BitVec 32 := 0#32
  let v876 : BitVec 1 := Scalar.cmpi .slt v874 c0_i32_648
  let c0_i32_649 : BitVec 32 := 0#32
  let v877 : BitVec 1 := Scalar.cmpi .slt v873 c0_i32_649
  let v878 : BitVec 1 := Scalar.xori v876 v877
  let c0_i32_647 : BitVec 32 := 0#32
  let v875 : BitVec 1 := Scalar.cmpi .ne v874 c0_i32_647
  let v879 : BitVec 1 := Scalar.andi v878 v875
  let v880 : BitVec 32 := Scalar.addi v874 v873
  let v881 : BitVec 32 := Scalar.select v879 v880 v874
  let c1_i32_652 : BitVec 32 := 1#32
  let v882 : BitVec 32 := Scalar.muli v881 c1_i32_652
  let v883 : BitVec 32 := Scalar.addi c0_i32_653 v882
  v883.toNat
def k0_dev57 (d0 : Dev nD) : Nat :=
  let c0_i32_668 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_658 : BitVec 32 := 26#32
  let v890 : BitVec 32 := Scalar.addi v2 c26_i32_658
  let c32_i32_659 : BitVec 32 := 32#32
  let c0_i32_660 : BitVec 32 := 0#32
  let v891 : BitVec 1 := Scalar.cmpi .eq c32_i32_659 c0_i32_660
  let c1_i32_661 : BitVec 32 := 1#32
  let v892 : BitVec 32 := Scalar.select v891 c1_i32_661 c32_i32_659
  let v893 : BitVec 32 := Scalar.remsi v890 v892
  let c0_i32_663 : BitVec 32 := 0#32
  let v895 : BitVec 1 := Scalar.cmpi .slt v893 c0_i32_663
  let c0_i32_664 : BitVec 32 := 0#32
  let v896 : BitVec 1 := Scalar.cmpi .slt v892 c0_i32_664
  let v897 : BitVec 1 := Scalar.xori v895 v896
  let c0_i32_662 : BitVec 32 := 0#32
  let v894 : BitVec 1 := Scalar.cmpi .ne v893 c0_i32_662
  let v898 : BitVec 1 := Scalar.andi v897 v894
  let v899 : BitVec 32 := Scalar.addi v893 v892
  let v900 : BitVec 32 := Scalar.select v898 v899 v893
  let c1_i32_667 : BitVec 32 := 1#32
  let v901 : BitVec 32 := Scalar.muli v900 c1_i32_667
  let v902 : BitVec 32 := Scalar.addi c0_i32_668 v901
  v902.toNat
def k0_dev58 (d0 : Dev nD) : Nat :=
  let c0_i32_683 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_673 : BitVec 32 := 27#32
  let v909 : BitVec 32 := Scalar.addi v2 c27_i32_673
  let c32_i32_674 : BitVec 32 := 32#32
  let c0_i32_675 : BitVec 32 := 0#32
  let v910 : BitVec 1 := Scalar.cmpi .eq c32_i32_674 c0_i32_675
  let c1_i32_676 : BitVec 32 := 1#32
  let v911 : BitVec 32 := Scalar.select v910 c1_i32_676 c32_i32_674
  let v912 : BitVec 32 := Scalar.remsi v909 v911
  let c0_i32_678 : BitVec 32 := 0#32
  let v914 : BitVec 1 := Scalar.cmpi .slt v912 c0_i32_678
  let c0_i32_679 : BitVec 32 := 0#32
  let v915 : BitVec 1 := Scalar.cmpi .slt v911 c0_i32_679
  let v916 : BitVec 1 := Scalar.xori v914 v915
  let c0_i32_677 : BitVec 32 := 0#32
  let v913 : BitVec 1 := Scalar.cmpi .ne v912 c0_i32_677
  let v917 : BitVec 1 := Scalar.andi v916 v913
  let v918 : BitVec 32 := Scalar.addi v912 v911
  let v919 : BitVec 32 := Scalar.select v917 v918 v912
  let c1_i32_682 : BitVec 32 := 1#32
  let v920 : BitVec 32 := Scalar.muli v919 c1_i32_682
  let v921 : BitVec 32 := Scalar.addi c0_i32_683 v920
  v921.toNat
def k0_dev59 (d0 : Dev nD) : Nat :=
  let c0_i32_698 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_688 : BitVec 32 := 28#32
  let v928 : BitVec 32 := Scalar.addi v2 c28_i32_688
  let c32_i32_689 : BitVec 32 := 32#32
  let c0_i32_690 : BitVec 32 := 0#32
  let v929 : BitVec 1 := Scalar.cmpi .eq c32_i32_689 c0_i32_690
  let c1_i32_691 : BitVec 32 := 1#32
  let v930 : BitVec 32 := Scalar.select v929 c1_i32_691 c32_i32_689
  let v931 : BitVec 32 := Scalar.remsi v928 v930
  let c0_i32_693 : BitVec 32 := 0#32
  let v933 : BitVec 1 := Scalar.cmpi .slt v931 c0_i32_693
  let c0_i32_694 : BitVec 32 := 0#32
  let v934 : BitVec 1 := Scalar.cmpi .slt v930 c0_i32_694
  let v935 : BitVec 1 := Scalar.xori v933 v934
  let c0_i32_692 : BitVec 32 := 0#32
  let v932 : BitVec 1 := Scalar.cmpi .ne v931 c0_i32_692
  let v936 : BitVec 1 := Scalar.andi v935 v932
  let v937 : BitVec 32 := Scalar.addi v931 v930
  let v938 : BitVec 32 := Scalar.select v936 v937 v931
  let c1_i32_697 : BitVec 32 := 1#32
  let v939 : BitVec 32 := Scalar.muli v938 c1_i32_697
  let v940 : BitVec 32 := Scalar.addi c0_i32_698 v939
  v940.toNat
def k0_dev60 (d0 : Dev nD) : Nat :=
  let c0_i32_713 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_703 : BitVec 32 := 29#32
  let v947 : BitVec 32 := Scalar.addi v2 c29_i32_703
  let c32_i32_704 : BitVec 32 := 32#32
  let c0_i32_705 : BitVec 32 := 0#32
  let v948 : BitVec 1 := Scalar.cmpi .eq c32_i32_704 c0_i32_705
  let c1_i32_706 : BitVec 32 := 1#32
  let v949 : BitVec 32 := Scalar.select v948 c1_i32_706 c32_i32_704
  let v950 : BitVec 32 := Scalar.remsi v947 v949
  let c0_i32_708 : BitVec 32 := 0#32
  let v952 : BitVec 1 := Scalar.cmpi .slt v950 c0_i32_708
  let c0_i32_709 : BitVec 32 := 0#32
  let v953 : BitVec 1 := Scalar.cmpi .slt v949 c0_i32_709
  let v954 : BitVec 1 := Scalar.xori v952 v953
  let c0_i32_707 : BitVec 32 := 0#32
  let v951 : BitVec 1 := Scalar.cmpi .ne v950 c0_i32_707
  let v955 : BitVec 1 := Scalar.andi v954 v951
  let v956 : BitVec 32 := Scalar.addi v950 v949
  let v957 : BitVec 32 := Scalar.select v955 v956 v950
  let c1_i32_712 : BitVec 32 := 1#32
  let v958 : BitVec 32 := Scalar.muli v957 c1_i32_712
  let v959 : BitVec 32 := Scalar.addi c0_i32_713 v958
  v959.toNat
def k0_dev61 (d0 : Dev nD) : Nat :=
  let c0_i32_728 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_718 : BitVec 32 := 30#32
  let v966 : BitVec 32 := Scalar.addi v2 c30_i32_718
  let c32_i32_719 : BitVec 32 := 32#32
  let c0_i32_720 : BitVec 32 := 0#32
  let v967 : BitVec 1 := Scalar.cmpi .eq c32_i32_719 c0_i32_720
  let c1_i32_721 : BitVec 32 := 1#32
  let v968 : BitVec 32 := Scalar.select v967 c1_i32_721 c32_i32_719
  let v969 : BitVec 32 := Scalar.remsi v966 v968
  let c0_i32_723 : BitVec 32 := 0#32
  let v971 : BitVec 1 := Scalar.cmpi .slt v969 c0_i32_723
  let c0_i32_724 : BitVec 32 := 0#32
  let v972 : BitVec 1 := Scalar.cmpi .slt v968 c0_i32_724
  let v973 : BitVec 1 := Scalar.xori v971 v972
  let c0_i32_722 : BitVec 32 := 0#32
  let v970 : BitVec 1 := Scalar.cmpi .ne v969 c0_i32_722
  let v974 : BitVec 1 := Scalar.andi v973 v970
  let v975 : BitVec 32 := Scalar.addi v969 v968
  let v976 : BitVec 32 := Scalar.select v974 v975 v969
  let c1_i32_727 : BitVec 32 := 1#32
  let v977 : BitVec 32 := Scalar.muli v976 c1_i32_727
  let v978 : BitVec 32 := Scalar.addi c0_i32_728 v977
  v978.toNat
def k0_dev62 (d0 : Dev nD) : Nat :=
  let c0_i32_743 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_733 : BitVec 32 := 31#32
  let v985 : BitVec 32 := Scalar.addi v2 c31_i32_733
  let c32_i32_734 : BitVec 32 := 32#32
  let c0_i32_735 : BitVec 32 := 0#32
  let v986 : BitVec 1 := Scalar.cmpi .eq c32_i32_734 c0_i32_735
  let c1_i32_736 : BitVec 32 := 1#32
  let v987 : BitVec 32 := Scalar.select v986 c1_i32_736 c32_i32_734
  let v988 : BitVec 32 := Scalar.remsi v985 v987
  let c0_i32_738 : BitVec 32 := 0#32
  let v990 : BitVec 1 := Scalar.cmpi .slt v988 c0_i32_738
  let c0_i32_739 : BitVec 32 := 0#32
  let v991 : BitVec 1 := Scalar.cmpi .slt v987 c0_i32_739
  let v992 : BitVec 1 := Scalar.xori v990 v991
  let c0_i32_737 : BitVec 32 := 0#32
  let v989 : BitVec 1 := Scalar.cmpi .ne v988 c0_i32_737
  let v993 : BitVec 1 := Scalar.andi v992 v989
  let v994 : BitVec 32 := Scalar.addi v988 v987
  let v995 : BitVec 32 := Scalar.select v993 v994 v988
  let c1_i32_742 : BitVec 32 := 1#32
  let v996 : BitVec 32 := Scalar.muli v995 c1_i32_742
  let v997 : BitVec 32 := Scalar.addi c0_i32_743 v996
  v997.toNat
abbrev stage0_0 : Fin 1 → Memref sig .tc .vmem S768x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S768x16384 : Shape := ⟨2, ![768, 16384]⟩
abbrev S16384 : Shape := ⟨1, ![16384]⟩
abbrev S_ : Shape := ⟨0, ![]⟩
abbrev S768 : Shape := ⟨1, ![768]⟩
abbrev S768x1 : Shape := ⟨2, ![768, 1]⟩
abbrev S1x16384 : Shape := ⟨2, ![1, 16384]⟩

abbrev nBuf : Space → Nat
  | .hbm => 20
  | .vmem => 0
  | .smem => 0
  | _ => 0

abbrev bufTy : (tb : Table) → Fin (tcTables nBuf tb) → BufTy
  | .hbm, ⟨0, _⟩ => ⟨S768x16384, .bf16⟩
  | .hbm, ⟨1, _⟩ => ⟨S16384, .bf16⟩
  | .hbm, ⟨2, _⟩ => ⟨S768x16384, .f32⟩
  | .hbm, ⟨3, _⟩ => ⟨S16384, .f32⟩
  | .hbm, ⟨4, _⟩ => ⟨S768x16384, .f32⟩
  | .hbm, ⟨5, _⟩ => ⟨S_, .f32⟩
  | .hbm, ⟨6, _⟩ => ⟨S768, .f32⟩
  | .hbm, ⟨7, _⟩ => ⟨S768x1, .f32⟩
  | .hbm, ⟨8, _⟩ => ⟨S_, .f32⟩
  | .hbm, ⟨9, _⟩ => ⟨S768x1, .f32⟩
  | .hbm, ⟨10, _⟩ => ⟨S768x1, .f32⟩
  | .hbm, ⟨11, _⟩ => ⟨S_, .f32⟩
  | .hbm, ⟨12, _⟩ => ⟨S768x1, .f32⟩
  | .hbm, ⟨13, _⟩ => ⟨S768x1, .f32⟩
  | .hbm, ⟨14, _⟩ => ⟨S768x1, .f32⟩
  | .hbm, ⟨15, _⟩ => ⟨S1x16384, .f32⟩
  | .hbm, ⟨16, _⟩ => ⟨S768x16384, .f32⟩
  | .hbm, ⟨17, _⟩ => ⟨S768x16384, .f32⟩
  | .hbm, ⟨18, _⟩ => ⟨S768x16384, .f32⟩
  | .hbm, ⟨19, _⟩ => ⟨S768x16384, .f32⟩
  | _, _ => ⟨S768x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.Flat.lean ====
/-
The kernel's body as five loops over the device offsets.

The printed body is cut into sixty-four windows of straight-line text. Read through, it is: a signal to each of the
thirty-one other devices; the row sums of squares stored in row 0 of the scratch; one wait for the thirty-one signals
of the others; a copy of row 0 to each of them; the scaled block; a wait for each of the copies that arrive; the
block written; a wait for each of the copies sent. `body_eq_flat` says so, and the rest of the proof reads the loops.
-/
module

public import proofs.«01_k».proof.Proof.Gen.KernelIdeal.Skeleton

@[expose] public section

set_option synthInstance.maxSize 4096

noncomputable section

namespace Cert.NormProof

open Cert.KernelIdeal Cert.KernelIdeal.Gen Idealize.ShloMosaic Idealize.SL.Sem

variable {F : FTy → Type} [FloatOps F]

/-- The offsets less one: index `k` stands for the device `k + 1` places on. -/
abbrev Off : Type := Fin 31

/-- The offsets, in the order the loops of the kernel take them. -/
def offs : List Off :=
  [0, 1, 2, 3, 4, 5, 6, 7, 8, 9, 10, 11, 12, 13, 14, 15, 16, 17, 18, 19, 20, 21, 22, 23, 24, 25, 26, 27, 28, 29, 30]

/-- The device `k + 1` places after `c` on the ring. -/
def peer (k : Off) (c : Dev nD) : Dev nD := ⟨(c.val + (k.val + 1)) % 32, Nat.mod_lt _ (by decide)⟩

/-- The devices the signals name, as the body computes them. -/
def sigTargets (c : Dev nD) : List (Off × Dev nD) :=
   [(0, ⟨k0_dev1 c, k0_dev1_lt c⟩), (1, ⟨k0_dev2 c, k0_dev2_lt c⟩), (2, ⟨k0_dev3 c, k0_dev3_lt c⟩),
    (3, ⟨k0_dev4 c, k0_dev4_lt c⟩), (4, ⟨k0_dev5 c, k0_dev5_lt c⟩), (5, ⟨k0_dev6 c, k0_dev6_lt c⟩),
    (6, ⟨k0_dev7 c, k0_dev7_lt c⟩), (7, ⟨k0_dev8 c, k0_dev8_lt c⟩), (8, ⟨k0_dev9 c, k0_dev9_lt c⟩),
    (9, ⟨k0_dev10 c, k0_dev10_lt c⟩), (10, ⟨k0_dev11 c, k0_dev11_lt c⟩), (11, ⟨k0_dev12 c, k0_dev12_lt c⟩),
    (12, ⟨k0_dev13 c, k0_dev13_lt c⟩), (13, ⟨k0_dev14 c, k0_dev14_lt c⟩), (14, ⟨k0_dev15 c, k0_dev15_lt c⟩),
    (15, ⟨k0_dev16 c, k0_dev16_lt c⟩), (16, ⟨k0_dev17 c, k0_dev17_lt c⟩), (17, ⟨k0_dev18 c, k0_dev18_lt c⟩),
    (18, ⟨k0_dev19 c, k0_dev19_lt c⟩), (19, ⟨k0_dev20 c, k0_dev20_lt c⟩), (20, ⟨k0_dev21 c, k0_dev21_lt c⟩),
    (21, ⟨k0_dev22 c, k0_dev22_lt c⟩), (22, ⟨k0_dev23 c, k0_dev23_lt c⟩), (23, ⟨k0_dev24 c, k0_dev24_lt c⟩),
    (24, ⟨k0_dev25 c, k0_dev25_lt c⟩), (25, ⟨k0_dev26 c, k0_dev26_lt c⟩), (26, ⟨k0_dev27 c, k0_dev27_lt c⟩),
    (27, ⟨k0_dev28 c, k0_dev28_lt c⟩), (28, ⟨k0_dev29 c, k0_dev29_lt c⟩), (29, ⟨k0_dev30 c, k0_dev30_lt c⟩),
    (30, ⟨k0_dev31 c, k0_dev31_lt c⟩)]

/-- The devices the copies name, as the body computes them. -/
def copyTargets (c : Dev nD) : List (Off × Dev nD) :=
   [(0, ⟨k0_dev32 c, k0_dev32_lt c⟩), (1, ⟨k0_dev33 c, k0_dev33_lt c⟩), (2, ⟨k0_dev34 c, k0_dev34_lt c⟩),
    (3, ⟨k0_dev35 c, k0_dev35_lt c⟩), (4, ⟨k0_dev36 c, k0_dev36_lt c⟩), (5, ⟨k0_dev37 c, k0_dev37_lt c⟩),
    (6, ⟨k0_dev38 c, k0_dev38_lt c⟩), (7, ⟨k0_dev39 c, k0_dev39_lt c⟩), (8, ⟨k0_dev40 c, k0_dev40_lt c⟩),
    (9, ⟨k0_dev41 c, k0_dev41_lt c⟩), (10, ⟨k0_dev42 c, k0_dev42_lt c⟩), (11, ⟨k0_dev43 c, k0_dev43_lt c⟩),
    (12, ⟨k0_dev44 c, k0_dev44_lt c⟩), (13, ⟨k0_dev45 c, k0_dev45_lt c⟩), (14, ⟨k0_dev46 c, k0_dev46_lt c⟩),
    (15, ⟨k0_dev47 c, k0_dev47_lt c⟩), (16, ⟨k0_dev48 c, k0_dev48_lt c⟩), (17, ⟨k0_dev49 c, k0_dev49_lt c⟩),
    (18, ⟨k0_dev50 c, k0_dev50_lt c⟩), (19, ⟨k0_dev51 c, k0_dev51_lt c⟩), (20, ⟨k0_dev52 c, k0_dev52_lt c⟩),
    (21, ⟨k0_dev53 c, k0_dev53_lt c⟩), (22, ⟨k0_dev54 c, k0_dev54_lt c⟩), (23, ⟨k0_dev55 c, k0_dev55_lt c⟩),
    (24, ⟨k0_dev56 c, k0_dev56_lt c⟩), (25, ⟨k0_dev57 c, k0_dev57_lt c⟩), (26, ⟨k0_dev58 c, k0_dev58_lt c⟩),
    (27, ⟨k0_dev59 c, k0_dev59_lt c⟩), (28, ⟨k0_dev60 c, k0_dev60_lt c⟩), (29, ⟨k0_dev61 c, k0_dev61_lt c⟩),
    (30, ⟨k0_dev62 c, k0_dev62_lt c⟩)]

/-- The signals go to the thirty-one other devices in turn. -/
theorem sigTargets_eq : ∀ c : Dev nD, sigTargets c = offs.map fun k => (k, peer k c) := by decide +kernel

/-- The copies go to the thirty-one other devices in turn. -/
theorem copyTargets_eq : ∀ c : Dev nD, copyTargets c = offs.map fun k => (k, peer k c) := by decide +kernel

/-- A run of instructions `f b` over the entries `b` of a list, then `p`. -/
def runOver {β : Type} : List β → (β → TpuEff nD τ sig (Elt F) Λ₀ .tc PUnit) → Prog (TpuEff nD τ sig (Elt F) Λ₀ .tc) PUnit →
    Prog (TpuEff nD τ sig (Elt F) Λ₀ .tc) PUnit
  | [], _, p => p
  | b :: l, f, p => .op (f b) fun _ => runOver l f p

/-- Row `k + 1` lies in the scratch. -/
theorem row_inb (j : Fin 32) : ∀ a, (![j.val, 0] : Fin 2 → Nat) a + S1x768.size a ≤ S32x768.size a := by
  revert j; decide

/-- Index `j` lies in an array of thirty-two semaphores. -/
theorem sem_inb (j : Fin 32) : ∀ a, (![j.val] : Fin 1 → Nat) a + S1.size a ≤ S32.size a := by
  revert j; decide

/-- Row `j` of the scratch. -/
abbrev rowOf (part : Memref sig .tc .vmem S32x768 .f32) (j : Fin 32) : Memref sig .tc .vmem S1x768 .f32 :=
  part.slice (Rect.unit (s := S32x768) ![j.val, 0] S1x768.size (row_inb j)) (fun _ => rfl)

/-- Semaphore `j` of an array of thirty-two. -/
abbrev semAt (s : DmaSems sig S32) (j : Fin 32) : DmaSem sig :=
  ((s.slice (Rect.unit (s := S32) ![j.val] S1.size (sem_inb j))).squeeze S_ squeezes_S1_S_).sem

/-- The signal of one unit to another device's barrier semaphore. -/
abbrev sigOp (kd : Off × Dev nD) : TpuEff nD τ sig (Elt F) Λ₀ .tc PUnit :=
  .semSignal (kd.2.tc) (sig.barrier 0 rfl) ((1 : ℕ) : Int)

/-- The copy of row 0 to row `k + 1` of another device. -/
abbrev copyOp (part : Memref sig .tc .vmem S32x768 .f32) (sends recvs : DmaSems sig S32) (kd : Off × Dev nD) :
    TpuEff nD τ sig (Elt F) Λ₀ .tc PUnit :=
  .enqueueDma (rowOf part 0) (.remote (Dev.tc kd.2) (rowOf part kd.1.succ) (.dma (semAt sends kd.1.succ)))
    (.dma (semAt recvs kd.1.succ)) (View.wordExact_bits rfl) (View.wordExact_bits rfl) ⟨⟨rfl, Or.inl rfl⟩, trivial⟩

/-- The wait for the copy into row `k + 1`. -/
abbrev recvOp (part : Memref sig .tc .vmem S32x768 .f32) (recvs : DmaSems sig S32) (k : Off) :
    TpuEff nD τ sig (Elt F) Λ₀ .tc PUnit :=
  .waitDma2 (semAt recvs k.succ) (rowOf part 0) (rowOf part k.succ) (View.wordExact_bits rfl) (View.wordExact_bits rfl)

/-- The wait for the copy sent `k + 1` places on. -/
abbrev sentOp (part : Memref sig .tc .vmem S32x768 .f32) (sends : DmaSems sig S32) (k : Off) :
    TpuEff nD τ sig (Elt F) Λ₀ .tc PUnit :=
  .waitDma2 (semAt sends k.succ) (rowOf part k.succ) (rowOf part 0) (View.wordExact_bits rfl) (View.wordExact_bits rfl)

/-- The body: the five loops and what stands between them. -/
def flatBody (arg0 : Memref sig .tc .vmem S768x512 .bf16) (arg1 : Memref sig .tc .vmem S1x512 .bf16)
    (arg2 : Memref sig .tc .vmem S768x512 .f32) (arg3 : Memref sig .tc .vmem S32x768 .f32) (arg4 arg5 : DmaSems sig S32) :
    Prog (TpuEff nD τ sig (Elt F) Λ₀ .tc) PUnit :=
  .op .deviceId fun d0 =>
  runOver (sigTargets d0) sigOp <|
  .op (.load arg0 (Rect.unit (s := S768x512) ![0, 0] S768x512.size inb_S768x512_S768x512_0_0).toLoadRect (View.loadsAt_vmem h_S768x512)) fun x =>
  .op (.load arg3 (Rect.unit (s := S32x768) ![0, 0] S1x768.size inb_S32x768_S1x768_0_0).toLoadRect (View.loadsAt_vmem h_S1x768)) fun _ =>
  .op (.store arg3 (Rect.unit (s := S32x768) ![0, 0] S1x768.size inb_S32x768_S1x768_0_0) (k0_pay2 x) Finset.univ (View.stores_vmem_bits_univ h_S1x768 rfl) (.inl rfl)) fun _ =>
  .op (.semWait (sig.barrier 0 rfl) ((31 : ℕ) : Int)) fun _ =>
  runOver (copyTargets d0) (copyOp arg3 arg4 arg5) <|
  .op (.load arg1 (Rect.unit (s := S1x512) ![0, 0] S1x512.size inb_S1x512_S1x512_0_0).toLoadRect (View.loadsAt_vmem h_S1x512)) fun g =>
  runOver offs (recvOp arg3 arg5) <|
  .op (.load arg3 (Rect.unit (s := S32x768) ![0, 0] S32x768.size inb_S32x768_S32x768_0_0).toLoadRect (View.loadsAt_vmem h_S32x768)) fun part =>
  .op (.load arg2 (Rect.unit (s := S768x512) ![0, 0] S768x512.size inb_S768x512_S768x512_0_0).toLoadRect (View.loadsAt_vmem h_S768x512)) fun _ =>
  .op (.store arg2 (Rect.unit (s := S768x512) ![0, 0] S768x512.size inb_S768x512_S768x512_0_0) (k0_pay4 (k0_pay3 (k0_pay1 x) g) part) Finset.univ (View.stores_vmem_bits_univ h_S768x512 rfl) (.inl rfl)) fun _ =>
  runOver offs (sentOp arg3 arg4) <|
  .ret ⟨⟩

set_option maxRecDepth 65536 in
/-- The printed body is the five loops. -/
theorem body_eq_flat (arg0 : Memref sig .tc .vmem S768x512 .bf16) (harg0 : arg0.IsWhole)
    (arg1 : Memref sig .tc .vmem S1x512 .bf16) (harg1 : arg1.IsWhole)
    (arg2 : Memref sig .tc .vmem S768x512 .f32) (harg2 : arg2.IsWhole)
    (arg3 : Memref sig .tc .vmem S32x768 .f32) (harg3 : arg3.IsWhole) (arg4 arg5 : DmaSems sig S32) :
    cc0_body (F := F) arg0 harg0 arg1 harg1 arg2 harg2 arg3 harg3 arg4 arg5 = flatBody arg0 arg1 arg2 arg3 arg4 arg5 := by
  rfl

end Cert.NormProof

end
-- ==== Proof.Rows.lean ====
/-
The ring of devices and the rows of the scratch buffer.

A device's scratch holds thirty-two rows. Row 0 is the device's own row of sums of squares; row `j` is that of the
device `j` places before it. This module names those contents once (`sums`), says which device each row belongs to, and
proves the facts the body needs: the rows are disjoint and make the whole buffer, a row is known by what it reads, and
a copy of row 0 of one device into row `k + 1` of the device `k + 1` places on leaves there what `sums` says.
-/
module

public import proofs.«01_k».proof.Proof.Flat
public import proofs.«01_k».proof.Proof.Gen.KernelIdeal.Frame
public import proofs.«01_k».proof.Proof.Gen.KernelIdeal.Launch
public import proofs.«01_k».proof.Proof.Gen.KernelIdeal.Points
public import Idealize.ShloMosaic.Lib.Rounds
public import Idealize.ShloMosaic.Lib.Ring
public import Idealize.ShloMosaic.Lib.Transfers
public import Idealize.ShloMosaic.Lib.Tactic
public import Idealize.ShloMosaic.Lib.ValueIdxCore

@[expose] public section

noncomputable section

namespace Cert.NormProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The ring -/

/-- Going `k + 1` places on and then the rest of the way round comes back. -/
theorem peer_rev_peer : ∀ (k : Off) (c : Dev nD), peer k.rev (peer k c) = c := by decide +kernel
/-- The same the other way about. -/
theorem peer_peer_rev : ∀ (k : Off) (c : Dev nD), peer k (peer k.rev c) = c := by decide +kernel

/-- The device reached from `c` by offset `k` is `d` exactly when `c` is reached from `d` by the reverse offset. -/
theorem peer_eq_iff (k : Off) (c d : Dev nD) : peer k d = c ↔ d = peer k.rev c := by
  constructor
  · rintro rfl; exact (peer_rev_peer k d).symm
  · rintro rfl; exact peer_peer_rev k c

/-- The turn of the ring by `k + 1` places. -/
def turn (k : Off) : Dev nD ≃ Dev nD := ⟨peer k, peer k.rev, peer_rev_peer k, peer_peer_rev k⟩

/-- The offsets reversed: `k + 1` places on is `32 - (k + 1)` places back. -/
def flip : Off ≃ Off := ⟨Fin.rev, Fin.rev, Fin.rev_rev, Fin.rev_rev⟩

/-- The device whose sums row `j` of device `c` holds: `j` places before `c`. -/
def owner (j : Fin 32) (c : Dev nD) : Dev nD := ⟨(c.val + (32 - j.val)) % 32, Nat.mod_lt _ (by decide)⟩

theorem owner_zero : ∀ c : Dev nD, owner 0 c = c := by decide +kernel
theorem owner_succ_peer : ∀ (k : Off) (c : Dev nD), owner k.succ (peer k c) = c := by decide +kernel
/-- The owners of a device's rows are all the devices, each once. -/
theorem owner_bijective : ∀ c : Dev nD, Function.Bijective fun j : Fin 32 => (owner j c : Fin 32) := fun c =>
  (Finite.injective_iff_bijective (α := Fin 32)).mp ((by decide +kernel : ∀ c : Fin 32, Function.Injective fun j : Fin 32 => (owner j c : Fin 32)) c)

/-! ## The buffers -/

/-- The scratch buffer, whole. -/
abbrev scr : Memref sig .tc .vmem S32x768 .f32 := Memref.whole cc0_scratch0

/-- The elements of row `j`. -/
abbrev rowSet (j : Fin 32) : Finset S32x768.Idx := (rowOf scr j).view.set

theorem mem_rowSet (j : Fin 32) (i : S32x768.Idx) : i ∈ rowSet j ↔ (i 0).val = j.val := by
  show i ∈ ((View.whole cc0_scratch0).slice (Rect.unit (s := S32x768) ![j.val, 0] S1x768.size (row_inb j))).set ↔ _
  rw [View.set_slice_whole, Rect.mem_set_unit]
  constructor
  · intro h
    have h0 := h 0
    change j.val ≤ (i 0).val ∧ (i 0).val < j.val + 1 at h0
    omega
  · intro h a
    have h1 : (i 1).val < 768 := (i 1).isLt
    fin_cases a
    · change j.val ≤ (i 0).val ∧ (i 0).val < j.val + 1; omega
    · change 0 ≤ (i 1).val ∧ (i 1).val < 0 + 768; omega

theorem rowSet_disjoint (j j' : Fin 32) (h : j ≠ j') : Disjoint (rowSet j) (rowSet j') := by
  rw [Finset.disjoint_left]
  intro i h1 h2
  exact h (Fin.ext (((mem_rowSet j i).mp h1).symm.trans ((mem_rowSet j' i).mp h2)))

theorem rowSet_cover : Finset.univ.biUnion rowSet = Finset.univ := by
  ext i
  simp only [Finset.mem_biUnion, Finset.mem_univ, true_and, iff_true]
  exact ⟨⟨(i 0).val, (i 0).isLt⟩, (mem_rowSet _ i).mpr rfl⟩

/-! ## Contents -/

variable (m : (ℓ : Loc nD τ sig) → Buf (Elt F) ℓ)

/-- Device `c`'s block of `x`, as the kernel loads it. -/
def xblk (c : Dev nD) : Vec F S768x512 .bf16 := iblk m c 0 t0_0
/-- Device `c`'s block of `gamma`, as the kernel loads it. -/
def gblk (c : Dev nD) : Vec F S1x512 .bf16 := iblk m c 1 t0_0

/-- The scratch of device `c` when every copy has arrived: in row `j`, the sums of squares of the device `j` places
    before it. -/
def sums (c : Dev nD) : Vec F S32x768 .f32 := fun i => k0_pay2 (xblk m (owner (i 0) c)) (ix2 (0 : Fin 1) (i 1 : Fin 768))

/-- What device `c` stores. -/
def outAt (c : Dev nD) : Vec F S768x512 .f32 := k0_pay4 (k0_pay3 (k0_pay1 (xblk m c)) (gblk m c)) (sums m c)

/-- Row `j` of those contents. -/
theorem read_row (j : Fin 32) (c : Dev nD) :
    (rowOf scr j).view.read (Elt F) (sums m c) = k0_pay2 (xblk m (owner j c)) := by
  funext x
  show sums m c ((Rect.unit (s := S32x768) ![j.val, 0] S1x768.size (row_inb j)).emb x) = _
  have e0 : ((Rect.unit (s := S32x768) ![j.val, 0] S1x768.size (row_inb j)).emb x 0) = j := by
    apply Fin.ext
    have h0 : (x 0).val < 1 := (x 0).isLt
    show j.val + 1 * (x 0).val = j.val
    omega
  unfold sums
  rw [e0]
  congr 1
  funext a
  fin_cases a
  · apply Fin.ext
    have h0 : (x 0).val < 1 := (x 0).isLt
    show 0 = (x 0).val
    omega
  · apply Fin.ext
    show 0 + 1 * (x 1).val = (x 1).val
    omega

end Cert.NormProof

end
-- ==== Proof.Protocol.lean ====
/-
The protocol of the kernel: who pays what to which semaphore, and with which part of memory.

Each device's barrier semaphore is paid one unit by each of the thirty-one others. The device that lies so that its
offset `k` reaches this one pays duty `k`, and hands over the row of its own scratch that this device will fill. A
receive semaphore is paid once, by the copy that fills its row; a send semaphore once, by the copy leaving, which gives
back the share of row 0 it was reading. Everything happens in one round.
-/
module

public import proofs.«01_k».proof.Proof.Rows
public import Idealize.ShloMosaic.Lib.Pipeline.Launch
public import Idealize.ShloMosaic.Lib.Pipeline.Kit
public import Idealize.ShloMosaic.Lib.Pipeline.Regions
public import Idealize.ShloMosaic.Lib.Pipeline.RegionTalk

@[expose] public section

noncomputable section

namespace Cert.NormProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Off
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Semaphores -/

/-- What a semaphore is for. -/
inductive Slot where
  | bar | send (k : Off) | recv (k : Off) | other

/-- The use of each semaphore, read off its number. -/
def slotOf : SemLoc sig → Slot
  | .reg _ => .bar
  | .dma q => if h : 4 ≤ q.val ∧ q.val < 35 then .send ⟨q.val - 4, by omega⟩
      else if h : 36 ≤ q.val ∧ q.val < 67 then .recv ⟨q.val - 36, by omega⟩ else .other

abbrev barS : Sem sig := sig.barrier 0 rfl
abbrev sendS (k : Off) : DmaSem sig := semAt cc0_scratch1 k.succ
abbrev recvS (k : Off) : DmaSem sig := semAt cc0_scratch2 k.succ

abbrev barCell (c : Dev nD) : GSem nD τ sig := ((c : Thread nD τ), .reg barS)
abbrev sendCell (c : Dev nD) (k : Off) : GSem nD τ sig := ((c : Thread nD τ), .dma (sendS k))
abbrev recvCell (c : Dev nD) (k : Off) : GSem nD τ sig := ((c : Thread nD τ), .dma (recvS k))

theorem sendS_val : ∀ k : Off, (sendS k).val = k.val + 4 := by decide +kernel
theorem recvS_val : ∀ k : Off, (recvS k).val = k.val + 36 := by decide +kernel

theorem slot_send (k : Off) : slotOf (.dma (sendS k)) = .send k := by
  have hk := k.isLt
  unfold slotOf
  simp only [sendS_val]
  rw [dif_pos ⟨by omega, by omega⟩]
  exact congrArg Slot.send (Fin.ext (Nat.add_sub_cancel _ _))

theorem slot_recv (k : Off) : slotOf (.dma (recvS k)) = .recv k := by
  have hk := k.isLt
  unfold slotOf
  simp only [recvS_val]
  rw [dif_neg (by omega), dif_pos ⟨by omega, by omega⟩]
  exact congrArg Slot.recv (Fin.ext (Nat.add_sub_cancel _ _))

/-! ## Rows held -/

/-- Row `j` of device `c`'s scratch, held at share `q` with the contents `f`. -/
abbrev rowPts (c : Dev nD) (j : Fin 32) (q : PosShare TreeShare) (f : Buf (Elt F) ((c : Thread nD τ).loc cc0_scratch0)) : sProp 𝕄 :=
  (rowOf scr j).view.loc (c : Thread nD τ) ↦[(rowOf scr j).view.set]{q} f

omit [FloatOps F] in
/-- A row is known by what it reads. -/
theorem rowPts_congr {c : Dev nD} {j : Fin 32} {q : PosShare TreeShare} {f g : Buf (Elt F) ((c : Thread nD τ).loc cc0_scratch0)}
    (h : (rowOf scr j).view.read (Elt F) f = (rowOf scr j).view.read (Elt F) g) : rowPts c j q f = rowPts c j q g :=
  pointsTo_congr fun i hi => by
    obtain ⟨x, -, rfl⟩ := Finset.mem_map.mp hi
    exact congrFun h x

omit [FloatOps F] in
/-- The scratch held whole is its rows held each. -/
theorem scr_rows (c : Dev nD) (q : PosShare TreeShare) (f : Buf (Elt F) ((c : Thread nD τ).loc cc0_scratch0)) :
    (((c : Thread nD τ).loc cc0_scratch0) ↦{q} f : sProp 𝕄) = bigSep Finset.univ fun j : Fin 32 => rowPts c j q f :=
  Ring.pointsTo_blocks (ℓ := (c : Thread nD τ).loc cc0_scratch0) rowSet rowSet_disjoint rowSet_cover f

omit [FloatOps F] in
/-- A conjunction over thirty-two rows is row 0's and the other thirty-one. -/
theorem bigSep_rows (Φ : Fin 32 → sProp 𝕄) :
    bigSep Finset.univ Φ = iprop(Φ 0 ∗ bigSep Finset.univ fun k : Off => Φ k.succ) := by
  rw [Fin.univ_succ, Finset.cons_eq_insert, bigSep_insert (by simp), bigSep_map]
  rfl

variable (m : (ℓ : Loc nD τ sig) → Buf (Elt F) ℓ)

/-- Row `k + 1` of the device `k + 1` places on, once device `c`'s row 0 has been copied there. -/
theorem row_landed (k : Off) (c : Dev nD) (q : PosShare TreeShare) (fd : Buf (Elt F) ((peer k c : Thread nD τ).loc cc0_scratch0)) :
    rowPts (peer k c) k.succ q ((rowOf scr k.succ).view.write (Elt F) fd ((rowOf scr 0).view.read (Elt F) (sums m c)) Finset.univ)
      = rowPts (peer k c) k.succ q (sums m (peer k c)) :=
  rowPts_congr (by rw [View.read_write_univ, read_row, read_row, owner_zero, owner_succ_peer])

/-- Row 0 once the device's own sums of squares are stored in it. -/
theorem row_stored (c : Dev nD) (q : PosShare TreeShare) (fd : Buf (Elt F) ((c : Thread nD τ).loc cc0_scratch0)) :
    rowPts c 0 q ((rowOf scr 0).view.write (Elt F) fd (k0_pay2 (xblk m c)) Finset.univ) = rowPts c 0 q (sums m c) :=
  rowPts_congr (by rw [View.read_write_univ, read_row, owner_zero])

/-! ## The schedule -/

/-- The units one copy of a row pays. -/
abbrev N : ℕ := (rowOf scr 0).view.dmaCredit
theorem N_pos : 0 < N := View.dmaCredit_pos _ (by decide)

/-- What duty `k` of device `c`'s barrier hands it: the row its copy `k.rev` goes to, at whatever contents, and that its
    receive semaphore is at its one round. -/
def barPay (c : Dev nD) (k : Off) : sProp 𝕄 :=
  iprop((∃ f, rowPts (peer k.rev c) k.rev.succ fullShare f) ∗ reached ER (recvCell (peer k.rev c) k.rev) 0)

/-- The duties of a semaphore at the one round. -/
def slotDuties : Slot → Finset Off
  | .bar => Finset.univ
  | .send _ | .recv _ => {0}
  | .other => ∅

/-- The units a duty pays. -/
def slotAmount : Slot → ℕ
  | .bar => 1
  | _ => N

/-- What a duty hands over. -/
def slotPay (c : Dev nD) : Slot → Off → sProp 𝕄
  | .bar, k => barPay c k
  | .send k, _ => rowPts c 0 (Transfers.shareTok fullShare 31 k) (sums m c)
  | .recv k, _ => rowPts c k.succ fullShare (sums m c)
  | .other, _ => iprop(emp)

/-- The schedule. -/
def Rd : Rounds.Schedule (GSem nD τ sig) Off 𝕄 where
  duties g r := if r = 0 ∧ g.1.2 = .tc then slotDuties (slotOf g.2) else ∅
  unitless _ := False
  amount g _ _ := slotAmount (slotOf g.2)
  payload g _ d := slotPay m g.1.1 (slotOf g.2) d
  amount_pos g _ _ _ := by
    cases slotOf g.2 <;> first | exact Nat.one_pos | exact N_pos

instance Rd_payload_storable (g : GSem nD τ sig) (r : ℕ) (d : Off) :
    BI.Storable (upEmb : UEmb _ 𝕄) ((Rd (F := F) m).payload g r d) := by
  show BI.Storable upEmb (slotPay m g.1.1 (slotOf g.2) d)
  cases slotOf g.2 <;> dsimp only [slotPay] <;> (try unfold barPay) <;> infer_instance

variable (c : Dev nD) (k : Off)

theorem duties_bar : (Rd (F := F) m).duties (barCell c) 0 = Finset.univ := by dsimp only [Rd]; rw [if_pos ⟨rfl, rfl⟩]; rfl
theorem duties_send : (Rd (F := F) m).duties (sendCell c k) 0 = {0} := by dsimp only [Rd]; rw [if_pos ⟨rfl, rfl⟩, slot_send]; rfl
theorem duties_recv : (Rd (F := F) m).duties (recvCell c k) 0 = {0} := by dsimp only [Rd]; rw [if_pos ⟨rfl, rfl⟩, slot_recv]; rfl
theorem duties_later (g : GSem nD τ sig) : ∀ r, 1 ≤ r → (Rd (F := F) m).duties g r = ∅ :=
  fun r hr => if_neg fun h => by omega
/-- A semaphore of no use to the body has no duty at all. -/
theorem duties_other (g : GSem nD τ sig) (h : slotOf g.2 = .other) : ∀ r, 0 ≤ r → (Rd (F := F) m).duties g r = ∅ := fun r _ => by
  dsimp only [Rd]; rw [h]; split <;> rfl

theorem amount_bar (d : Off) : (Rd (F := F) m).amount (barCell c) 0 d = 1 := rfl
theorem amount_send (d : Off) : (Rd (F := F) m).amount (sendCell c k) 0 d = N := by dsimp only [Rd]; rw [slot_send]; rfl
theorem amount_recv (d : Off) : (Rd (F := F) m).amount (recvCell c k) 0 d = N := by dsimp only [Rd]; rw [slot_recv]; rfl

theorem expect_bar : (Rd (F := F) m).expect (barCell c) 0 = 31 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c k) 0 = N := by
  unfold Schedule.expect Schedule.amountOf; rw [duties_send, Finset.sum_singleton, amount_send]
theorem expect_recv : (Rd (F := F) m).expect (recvCell c k) 0 = N := by
  unfold Schedule.expect Schedule.amountOf; rw [duties_recv, Finset.sum_singleton, amount_recv]

theorem payload_bar (d : Off) : (Rd (F := F) m).payload (barCell c) 0 d = barPay c d := rfl
theorem payload_send (d : Off) : (Rd (F := F) m).payload (sendCell c k) 0 d = rowPts c 0 (Transfers.shareTok fullShare 31 k) (sums m c) := by
  dsimp only [Rd]; rw [slot_send]; rfl
theorem payload_recv (d : Off) : (Rd (F := F) m).payload (recvCell c k) 0 d = rowPts c k.succ fullShare (sums m c) := by
  dsimp only [Rd]; rw [slot_recv]; rfl

/-- The barrier's whole round, seen from the copies: each copy's row, and its receive semaphore at its round. -/
theorem rest_bar : bigSep ((Rd (F := F) m).duties (barCell c) 0 \ ∅) (fun d => (Rd (F := F) m).payload (barCell c) 0 d)
    = bigSep Finset.univ fun k : Off => iprop((∃ f, rowPts (peer k c) k.succ fullShare f) ∗ reached ER (recvCell (peer k c) k) 0) := by
  rw [Finset.sdiff_empty, duties_bar, bigSep_univ_equiv flip]
  refine bigSep_congr fun k _ => ?_
  show barPay c k.rev = _
  unfold barPay; rw [Fin.rev_rev]
theorem rest_send : bigSep ((Rd (F := F) m).duties (sendCell c k) 0 \ ∅) (fun d => (Rd (F := F) m).payload (sendCell c k) 0 d)
    = rowPts c 0 (Transfers.shareTok fullShare 31 k) (sums m c) := by
  rw [Finset.sdiff_empty, duties_send, bigSep_singleton, payload_send]
theorem rest_recv : bigSep ((Rd (F := F) m).duties (recvCell c k) 0 \ ∅) (fun d => (Rd (F := F) m).payload (recvCell c k) 0 d)
    = rowPts c k.succ fullShare (sums m c) := by
  rw [Finset.sdiff_empty, duties_recv, bigSep_singleton, payload_recv]

/-! ## What a device owes, and the levels -/

/-- What is owed while the copies of the offsets in `l` are still to start. -/
def copyOwed (c : Dev nD) : List Off → CellTallies nD τ sig Unit
  | [] => 0
  | k :: l => copyOwed c l + tallyAt (recvCell (peer k c) k) () N

/-- What is owed while the signals of the offsets in `l` are still to be sent. -/
def sigOwed (c : Dev nD) : List Off → CellTallies nD τ sig Unit
  | [] => copyOwed c offs
  | k :: l => sigOwed c l + tallyAt (barCell (peer k c)) () 1

/-- What a device owes at launch. -/
def O₀ (c : Dev nD) : CellTallies nD τ sig Unit := sigOwed c offs

def L (g : GSem nD τ sig) : Finset Unit := if g.1.2 = .tc then {()} else ∅

/-- The level of a semaphore by its use: the barrier below the receive semaphores, all else at the bottom. -/
def slotLevel : Slot → ℕ
  | .bar => 1
  | .recv _ => 2
  | _ => 0
def lv (g : GSem nD τ sig) (_ : Unit) : ℕ := slotLevel (slotOf g.2)

theorem L_of_ne (g : GSem nD τ sig) (h : g.1.2 ≠ .tc) : L g = ∅ := if_neg h
theorem L_tc (c : Dev nD) (sm : SemLoc sig) : L ((c : Thread nD τ), sm) = {()} := if_pos rfl

theorem tallyAt_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

/-- The copies' debts lie at receive semaphores. -/
theorem copyOwed_pos {g : GSem nD τ sig} {u : Unit} : ∀ l, 0 < copyOwed c l g u → g.1.2 = .tc ∧ lv g u = 2
  | [], h => absurd h (Nat.lt_irrefl 0)
  | k :: l, h => by
    unfold copyOwed at h
    rw [Pi.add_apply, Finsupp.add_apply] at h
    rcases Nat.add_pos_iff_pos_or_pos.mp h with h | h
    · exact copyOwed_pos l h
    · rw [tallyAt_pos h]; exact ⟨rfl, by unfold lv; rw [slot_recv]; rfl⟩

/-- Every debt lies above the bottom level. -/
theorem sigOwed_pos {g : GSem nD τ sig} {u : Unit} : ∀ l, 0 < sigOwed c l g u → g.1.2 = .tc ∧ 0 < lv g u
  | [], h => ⟨(copyOwed_pos c _ h).1, by rw [(copyOwed_pos c _ h).2]; decide⟩
  | k :: l, h => by
    unfold sigOwed at h
    rw [Pi.add_apply, Finsupp.add_apply] at h
    rcases Nat.add_pos_iff_pos_or_pos.mp h with h | h
    · exact sigOwed_pos l h
    · rw [tallyAt_pos h]; exact ⟨rfl, Nat.one_pos⟩

/-- At its barrier wait a device owes copies only, which lie above the barrier. -/
theorem mayWait_bar : (levAts L lv : sProp 𝕄) ⊢ MayWait (c : Thread nD τ) (.reg barS) () (copyOwed c offs) :=
  MayOwe.of_cut (L := L) (lev := lv) 1 (fun p hp => by rw [Finset.mem_singleton.mp hp, L_tc]; exact Finset.mem_singleton_self _)
    (fun g u hg => by unfold L; rw [if_pos (copyOwed_pos c _ hg).1]; exact Finset.mem_singleton_self _)
    (fun p hp => by rw [Finset.mem_singleton.mp hp]; exact le_of_eq rfl)
    (fun g u hg => by rw [(copyOwed_pos c _ hg).2]; decide)

end Cert.NormProof

end
-- ==== Proof.Loops.lean ====
/-
The five loops of the body, each by one rule about one turn of it.

`wp_runOver` runs a loop: what each turn needs and gives is named once, and what the turns pass on to each other is a
statement about the turns still to come. The rest of the module is one turn of each loop: a signal, a copy started, a
copy awaited that arrives, a copy awaited that was sent.
-/
module

public import proofs.«01_k».proof.Proof.Protocol

@[expose] public section

noncomputable section

namespace Cert.NormProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A loop over a list -/

/-- One conjunct for each entry of a list. -/
def allOf {β : Type} (Φ : β → sProp 𝕄) : List β → sProp 𝕄
  | [] => iprop(emp)
  | b :: l => iprop(Φ b ∗ allOf Φ l)

omit [FloatOps F] in
/-- Over a list without repetition that is the conjunction over its entries as a set. -/
theorem allOf_eq {β : Type} [DecidableEq β] (Φ : β → sProp 𝕄) : ∀ l : List β, l.Nodup → allOf Φ l = bigSep l.toFinset Φ
  | [], _ => by rw [List.toFinset_nil, bigSep_empty]; rfl
  | b :: l, h => by
    rw [List.toFinset_cons, bigSep_insert (by rw [List.mem_toFinset]; exact (List.nodup_cons.mp h).1), ← allOf_eq Φ l (List.nodup_cons.mp h).2]
    rfl

omit [FloatOps F] in
/-- Over the offsets it is the conjunction over all of them. -/
theorem allOf_offs (Φ : Off → sProp 𝕄) : allOf Φ offs = bigSep Finset.univ Φ := by
  rw [allOf_eq Φ offs (by decide), show offs.toFinset = Finset.univ by decide]

/-- A loop over a mapped list is a loop over the list. -/
theorem runOver_map {β γ : Type} (g : γ → β) (f : β → TpuEff nD τ sig (Elt F) Λ₀ .tc PUnit) (p : Prog (TpuEff nD τ sig (Elt F) Λ₀ .tc) PUnit) :
    ∀ l : List γ, runOver (l.map g) f p = runOver l (fun b => f (g b)) p
  | [] => rfl
  | b :: l => congrArg (fun q => Prog.op (f (g b)) fun _ => q) (runOver_map g f p l)

/-- A loop, from one turn of it: turn `b` takes `pre b` to `post b` and what is passed on from `sh (b :: l)` to `sh l`. -/
theorem wp_runOver {β : Type} (c : Dev nD) (f : β → TpuEff nD τ sig (Elt F) Λ₀ .tc PUnit) (pre post : β → sProp 𝕄) (sh : List β → sProp 𝕄)
    (Q : PUnit → sProp 𝕄)
    (hstep : ∀ b l (p : Prog (TpuEff nD τ sig (Elt F) Λ₀ .tc) PUnit), iprop(pre b ∗ sh (b :: l))
      ⊢ iprop(((post b ∗ sh l) -∗ wp frame (wpE (defs₀ (F := F)) 𝒱₀ (c : Thread nD τ) none) Set.univ p Q)
          -∗ wp frame (wpE (defs₀ (F := F)) 𝒱₀ (c : Thread nD τ) none) Set.univ (.op (f b) fun _ => p) Q))
    (p : Prog (TpuEff nD τ sig (Elt F) Λ₀ .tc) PUnit) :
    ∀ l, iprop(allOf pre l ∗ sh l)
      ⊢ iprop(((allOf post l ∗ sh []) -∗ wp frame (wpE (defs₀ (F := F)) 𝒱₀ (c : Thread nD τ) none) Set.univ p Q)
          -∗ wp frame (wpE (defs₀ (F := F)) 𝒱₀ (c : Thread nD τ) none) Set.univ (runOver l f p) Q)
  | [] => by
    unfold allOf runOver
    iintro ⟨-, Hs⟩ Hk
    iapply Hk
    isplitr; · iempintro
    iexact Hs
  | b :: l => by
    unfold allOf runOver
    iintro ⟨⟨Hb, Hl⟩, Hs⟩ Hk
    iapply (hstep b l (runOver l f p)) $$ [Hb Hs]
    · isplitl [Hb] <;> iassumption
    iintro ⟨Hp, Hs⟩
    iapply (wp_runOver c f pre post sh Q hstep p l) $$ [Hl Hs]
    · isplitl [Hl] <;> iassumption
    iintro ⟨Hq, Hs⟩
    iapply Hk
    isplitr [Hs]
    · isplitl [Hp] <;> iassumption
    iexact Hs

/-! ## What every device knows -/

variable (m : (ℓ : Loc nD τ sig) → Buf (Elt F) ℓ) (K : GSem nD τ sig → ℕ)

/-- The invariants of every semaphore of the protocol, and the marks of the rounds a device pays into or hands on. -/
def Recs (c : Dev nD) : sProp 𝕄 :=
  iprop((bigSep Finset.univ fun d : Dev nD => iprop(cellInv ER (Rd m) (K (barCell d)) (barCell d) ∗ reached ER (barCell d) 0))
    ∗ (bigSep Finset.univ fun dk : Dev nD × Off => cellInv ER (Rd m) (K (recvCell dk.1 dk.2)) (recvCell dk.1 dk.2))
    ∗ (bigSep Finset.univ fun dk : Dev nD × Off => cellInv ER (Rd m) (K (sendCell dk.1 dk.2)) (sendCell dk.1 dk.2))
    ∗ (bigSep Finset.univ fun k : Off => iprop(reached ER (sendCell c k) 0 ∗ reached ER (recvCell c k) 0)))

instance Recs_persistent (c : Dev nD) : BI.Persistent (Recs m K c) := by unfold Recs; infer_instance

theorem Recs_bar (c d : Dev nD) : Recs m K c ⊢ iprop(cellInv ER (Rd m) (K (barCell d)) (barCell d) ∗ reached ER (barCell d) 0) := by
  unfold Recs
  exact sep_elim_left.trans (bigSep_elim (Φ := fun d : Dev nD => iprop(cellInv ER (Rd m) (K (barCell d)) (barCell d) ∗ reached ER (barCell d) 0)) (Finset.mem_univ d))

theorem Recs_recv (c d : Dev nD) (k : Off) : Recs m K c ⊢ cellInv ER (Rd m) (K (recvCell d k)) (recvCell d k) := by
  unfold Recs
  exact sep_elim_right.trans (sep_elim_left.trans (bigSep_elim (Φ := fun dk : Dev nD × Off => cellInv ER (Rd m) (K (recvCell dk.1 dk.2)) (recvCell dk.1 dk.2)) (Finset.mem_univ (d, k))))

theorem Recs_send (c d : Dev nD) (k : Off) : Recs m K c ⊢ cellInv ER (Rd m) (K (sendCell d k)) (sendCell d k) := by
  unfold Recs
  exact sep_elim_right.trans (sep_elim_right.trans (sep_elim_left.trans (bigSep_elim (Φ := fun dk : Dev nD × Off => cellInv ER (Rd m) (K (sendCell dk.1 dk.2)) (sendCell dk.1 dk.2)) (Finset.mem_univ (d, k)))))

theorem Recs_own (c : Dev nD) (k : Off) : Recs m K c ⊢ iprop(reached ER (sendCell c k) 0 ∗ reached ER (recvCell c k) 0) := by
  unfold Recs
  exact sep_elim_right.trans (sep_elim_right.trans (sep_elim_right.trans (bigSep_elim (Φ := fun k : Off => iprop(reached ER (sendCell c k) 0 ∗ reached ER (recvCell c k) 0)) (Finset.mem_univ k))))

variable (c : Dev nD) (W : Waits sig Unit)

/-! ## The signals -/

/-- What the signal to the device `k + 1` places on takes: its duty there, and the row that device will fill. -/
def sigPre (k : Off) : sProp 𝕄 := iprop(dutyTok ER (barCell (peer k c)) 0 k ∗ ∃ f, rowPts c k.rev.succ fullShare f)

/-- One signal. -/
theorem sig_step (Q : PUnit → sProp 𝕄) (k : Off) (l : List Off) (p : Prog (TpuEff nD τ sig (Elt F) Λ₀ .tc) PUnit) :
    iprop(sigPre c k ∗ (Recs m K c ∗ owes (c : Thread nD τ) (sigOwed c (k :: l)) W))
      ⊢ iprop(((emp ∗ (Recs m K c ∗ owes (c : Thread nD τ) (sigOwed c l) W)) -∗ wp frame (wpE (defs₀ (F := F)) 𝒱₀ (c : Thread nD τ) none) Set.univ p Q)
          -∗ wp frame (wpE (defs₀ (F := F)) 𝒱₀ (c : Thread nD τ) none) Set.univ (.op (sigOp (k, peer k c)) fun _ => p) Q) := by
  unfold sigPre
  iintro ⟨⟨Ht, Hrow⟩, #HR, HO⟩ Hk
  ihave #⟨HI, Hr⟩ := (Recs_bar m K c (peer k c)) $$ HR
  ihave #⟨-, Hv⟩ := (Recs_own m K c k.rev) $$ HR
  iapply (Rounds.wp_signal 𝒱₀ ER (Rd m) (c : Thread nD τ) none (Q := Q) (k := fun _ => p) (dst := (peer k c : Thread nD τ)) (κ := K (barCell (peer k c)))
      (d := k) (by rw [duties_bar]; exact Finset.mem_univ _) ((amount_bar m (peer k c) k).trans (by decide)) () (sigOwed c l) rfl)
    $$ [HO Ht Hrow]
  · isplitr; · iexact HI
    isplitl [HO]; · iexact HO
    isplitl [Ht]; · iexact Ht
    isplitl [Hrow]
    · rw [payload_bar]; unfold barPay; rw [peer_rev_peer]
      isplitl [Hrow]; · iexact Hrow
      iexact Hv
    iexact Hr
  iintro HO
  iapply Hk
  isplitr; · iempintro
  isplitr; · iexact HR
  iexact HO

/-! ## The copies started -/

/-- What the copy to the device `k + 1` places on takes: a share of row 0, the row there and its semaphore at its round,
    and its two duties. -/
def copyPre (k : Off) : sProp 𝕄 :=
  iprop(rowPts c 0 (Transfers.shareTok fullShare 31 k) (sums m c)
    ∗ ((∃ f, rowPts (peer k c) k.succ fullShare f) ∗ reached ER (recvCell (peer k c) k) 0)
    ∗ dutyTok ER (sendCell c k) 0 0 ∗ dutyTok ER (recvCell (peer k c) k) 0 0)

/-- What it leaves: the claim on the units its end at this device pays. -/
def copyPost (k : Off) : sProp 𝕄 := cred (tallyAt (sendCell c k) () N)

/-- One copy started. -/
theorem copy_step (Q : PUnit → sProp 𝕄) (k : Off) (l : List Off) (p : Prog (TpuEff nD τ sig (Elt F) Λ₀ .tc) PUnit) :
    iprop(copyPre m c k ∗ (Recs m K c ∗ owes (c : Thread nD τ) (copyOwed c (k :: l)) W))
      ⊢ iprop(((copyPost c k ∗ (Recs m K c ∗ owes (c : Thread nD τ) (copyOwed c l) W)) -∗ wp frame (wpE (defs₀ (F := F)) 𝒱₀ (c : Thread nD τ) none) Set.univ p Q)
          -∗ wp frame (wpE (defs₀ (F := F)) 𝒱₀ (c : Thread nD τ) none) Set.univ (.op (copyOp scr cc0_scratch1 cc0_scratch2 (k, peer k c)) fun _ => p) Q) := by
  unfold copyPre copyPost
  iintro ⟨⟨Hsrc, ⟨⟨%fd, Hdst⟩, #Hv⟩, HtS, HtV⟩, #HR, HO⟩ Hk
  ihave #HIs := (Recs_send m K c c k) $$ HR
  ihave #HIv := (Recs_recv m K c (peer k c) k) $$ HR
  ihave #⟨Hs, -⟩ := (Recs_own m K c k) $$ HR
  iapply (Rounds.wp_send_pointsTo 𝒱₀ ER (Rd m) (c : Thread nD τ) none (Q := Q) (k := fun _ => p) (src := rowOf scr 0) (dst := rowOf scr k.succ) (fs := sums m c) (q := Transfers.shareTok fullShare 31 k) (c' := (peer k c : Thread nD τ)) (sS := .dma (sendS k)) (sem := .dma (recvS k)) (hsc := rfl) (κ₁ := K (sendCell c k)) (κ₂ := K (recvCell (peer k c) k))
      (r₁ := 0) (r₂ := 0) (d₁ := 0) (d₂ := 0) (fd := fd)
      (by rw [duties_send]; exact Finset.mem_singleton_self _) (by rw [duties_recv]; exact Finset.mem_singleton_self _)
      () () N rfl (amount_send m c k 0) (amount_recv m (peer k c) k 0) (copyOwed c l) rfl (W := W)
      (by rw [payload_send]) (by rw [payload_recv]; exact Entails.of_eq (row_landed m k c fullShare fd)))
    $$ [Hsrc Hdst HO HtS HtV]
  · isplitr; · iexact HIs
    isplitr; · iexact HIv
    isplitl [Hsrc]; · iexact Hsrc
    isplitl [Hdst]; · iexact Hdst
    isplitl [HO]; · iexact HO
    isplitl [HtS]; · iexact HtS
    isplitr; · iexact Hs
    isplitl [HtV]; · iexact HtV
    iexact Hv
  iintro ⟨HcS, HO⟩
  iapply Hk
  isplitl [HcS]; · iexact HcS
  isplitr; · iexact HR
  iexact HO

/-! ## The waits -/

/-- What the wait for the copy into row `k + 1` takes, -/
def recvPre (k : Off) : sProp 𝕄 := iprop(cred (tallyAt (recvCell c k) () N) ∗ atPos ER (recvCell c k) 0 ∅ 0)
/-- and what it gives: the row filled, and the semaphore done with. -/
def recvPost (k : Off) : sProp 𝕄 := iprop(rowPts c k.succ fullShare (sums m c) ∗ semVal (recvCell c k) 0)

/-- What is passed on among the waits. -/
def waiting (c : Dev nD) (_ : List Off) : sProp 𝕄 := iprop(Recs m K c ∗ ∃ W, owes (c : Thread nD τ) 0 W)

/-- One wait for a copy that arrives. -/
theorem recv_step (Q : PUnit → sProp 𝕄) (k : Off) (l : List Off) (p : Prog (TpuEff nD τ sig (Elt F) Λ₀ .tc) PUnit) :
    iprop(recvPre c k ∗ waiting m K c (k :: l))
      ⊢ iprop(((recvPost m c k ∗ waiting m K c l) -∗ wp frame (wpE (defs₀ (F := F)) 𝒱₀ (c : Thread nD τ) none) Set.univ p Q)
          -∗ wp frame (wpE (defs₀ (F := F)) 𝒱₀ (c : Thread nD τ) none) Set.univ (.op (recvOp scr cc0_scratch2 k) fun _ => p) Q) := by
  unfold recvPre recvPost waiting
  iintro ⟨⟨Hc, Ha⟩, #HR, ⟨%W, HO⟩⟩ Hk
  ihave #HI := (Recs_recv m K c c k) $$ HR
  iapply (Rounds.wp_wait_rest_token 𝒱₀ ER (Rd m) (c : Thread nD τ) none (Q := Q) (k := fun _ => p) (κ := K (recvCell c k))
      (wpE_waitDma2_eq 𝒱₀ (c : Thread nD τ) none Set.univ) (Set.mem_univ _) () (O := 0) (W := W) (R := 0) (m := 0) (T := ∅)
      (by rw [Nat.zero_add, expect_recv])) $$ [Hc HO Ha]
  · isplitr; · iexact HI
    isplitl [Hc]; · iexact Hc
    isplitl [HO]; · iexact HO
    isplitr; · rw [MayWait_zero]; iempintro
    iexact Ha
  iintro ⟨HO, Ha, -, Hpay⟩
  ihave Hrow := (Entails.of_eq (rest_recv m c k)) $$ Hpay
  imod (Rounds.cell_close ER (Rd m) (Set.mem_univ (K (recvCell c k))) (fun h => h) (R := 0 + 1) (duties_later m (recvCell c k))) $$ [Ha] with Hz
  · isplitr; · iexact HI
    iexact Ha
  iapply Hk
  isplitl [Hrow Hz]
  · isplitl [Hrow] <;> iassumption
  isplitr; · iexact HR
  iexists _; iexact HO

/-- What the wait for the copy sent `k + 1` places on takes, -/
def sentPre (k : Off) : sProp 𝕄 := iprop(cred (tallyAt (sendCell c k) () N) ∗ atPos ER (sendCell c k) 0 ∅ 0)
/-- and what it gives: the share of row 0 back, and the semaphore done with. -/
def sentPost (k : Off) : sProp 𝕄 := iprop(rowPts c 0 (Transfers.shareTok fullShare 31 k) (sums m c) ∗ semVal (sendCell c k) 0)

/-- One wait for a copy sent. -/
theorem sent_step (Q : PUnit → sProp 𝕄) (k : Off) (l : List Off) (p : Prog (TpuEff nD τ sig (Elt F) Λ₀ .tc) PUnit) :
    iprop(sentPre c k ∗ waiting m K c (k :: l))
      ⊢ iprop(((sentPost m c k ∗ waiting m K c l) -∗ wp frame (wpE (defs₀ (F := F)) 𝒱₀ (c : Thread nD τ) none) Set.univ p Q)
          -∗ wp frame (wpE (defs₀ (F := F)) 𝒱₀ (c : Thread nD τ) none) Set.univ (.op (sentOp scr cc0_scratch1 k) fun _ => p) Q) := by
  unfold sentPre sentPost waiting
  iintro ⟨⟨Hc, Ha⟩, #HR, ⟨%W, HO⟩⟩ Hk
  ihave #HI := (Recs_send m K c c k) $$ HR
  iapply (Rounds.wp_wait_rest_token 𝒱₀ ER (Rd m) (c : Thread nD τ) none (Q := Q) (k := fun _ => p) (κ := K (sendCell c k))
      (wpE_waitDma2_eq 𝒱₀ (c : Thread nD τ) none Set.univ) (Set.mem_univ _) () (O := 0) (W := W) (R := 0) (m := 0) (T := ∅)
      (by rw [Nat.zero_add, expect_send])) $$ [Hc HO Ha]
  · isplitr; · iexact HI
    isplitl [Hc]; · iexact Hc
    isplitl [HO]; · iexact HO
    isplitr; · rw [MayWait_zero]; iempintro
    iexact Ha
  iintro ⟨HO, Ha, -, Hpay⟩
  ihave Hrow := (Entails.of_eq (rest_send m c k)) $$ Hpay
  imod (Rounds.cell_close ER (Rd m) (Set.mem_univ (K (sendCell c k))) (fun h => h) (R := 0 + 1) (duties_later m (sendCell c k))) $$ [Ha] with Hz
  · isplitr; · iexact HI
    iexact Ha
  iapply Hk
  isplitl [Hrow Hz]
  · isplitl [Hrow] <;> iassumption
  isplitr; · iexact HR
  iexists _; iexact HO

end Cert.NormProof

end
-- ==== Proof.Body.lean ====
/-
The body of the kernel, executed: from what a device is dealt to what it leaves.

A device starts with its scratch, its positions, the tokens of the duties it pays and the credit for what it waits. It
hands the rows of its scratch to the devices that fill them, stores its own row, lends shares of that row to the
copies, gets every row back filled, reads the whole scratch, writes its block, and collects the shares of its own row.
-/
module

public import proofs.«01_k».proof.Proof.Loops
public import Idealize.ShloMosaic.Lib.StableHlo
public import Idealize.ShloMosaic.Harness.Basic

@[expose] public section

noncomputable section

namespace Cert.NormProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)

variable {F : FTy → Type} [FloatOps F]

local notation "𝕄" => MT nD τ sig Unit (Elt F) ℕ UU ℕ

/-! ## Rows given, lent and taken back -/

omit [FloatOps F] in
/-- The scratch with its rows apart, the rows past the first in the order of the signals that hand them on. -/
theorem scr_apart (c : Dev nD) (f : Buf (Elt F) ((c : Thread nD τ).loc cc0_scratch0)) :
    (((c : Thread nD τ).loc cc0_scratch0) ↦{fullShare} f : sProp 𝕄)
      ⊢ iprop(rowPts c 0 fullShare f ∗ bigSep Finset.univ fun k : Off => iprop(∃ f, rowPts c k.rev.succ fullShare f)) := by
  rw [scr_rows, bigSep_rows]
  refine sep_mono_right ?_
  rw [bigSep_univ_equiv flip]
  refine bigSep_mono fun k _ => ?_
  show rowPts c k.rev.succ fullShare f ⊢ (iprop(∃ f, rowPts c k.rev.succ fullShare f) : sProp 𝕄)
  iintro H
  iexists f
  iexact H

omit [FloatOps F] in
/-- Row 0 and its shares for the copies. -/
theorem row_lent (c : Dev nD) (j : Fin 32) (f : Buf (Elt F) ((c : Thread nD τ).loc cc0_scratch0)) :
    (rowPts c j fullShare f : sProp 𝕄)
      = iprop(rowPts c j (Transfers.shareDrop fullShare 31) f ∗ bigSep Finset.univ fun k : Off => rowPts c j (Transfers.shareTok fullShare 31 k) f) :=
  BI.Entails.antisymm (Transfers.pointsTo_toks_split fullShare 31) (Transfers.pointsTo_toks_join fullShare 31)

omit [FloatOps F] in
/-- While row 0 is lent, the scratch can still be read whole: each other row is cut at the same share. -/
theorem scr_read (c : Dev nD) (f : Buf (Elt F) ((c : Thread nD τ).loc cc0_scratch0)) :
    (iprop(rowPts c 0 (Transfers.shareDrop fullShare 31) f ∗ bigSep Finset.univ fun k : Off => rowPts c k.succ fullShare f) : sProp 𝕄)
      = iprop((((c : Thread nD τ).loc cc0_scratch0) ↦{Transfers.shareDrop fullShare 31} f)
          ∗ bigSep Finset.univ fun k : Off => bigSep Finset.univ fun i : Off => rowPts c k.succ (Transfers.shareTok fullShare 31 i) f) := by
  rw [scr_rows, bigSep_rows, bigSep_congr fun k _ => row_lent c k.succ f, bigSep_sep']
  exact BI.Entails.antisymm (Laws.sep_assoc (PROP := sProp 𝕄)).2 (Laws.sep_assoc (PROP := sProp 𝕄)).1

omit [FloatOps F] in
/-- The scratch whole again, when the shares of row 0 are back. -/
theorem scr_whole (c : Dev nD) (f : Buf (Elt F) ((c : Thread nD τ).loc cc0_scratch0)) :
    (iprop((rowPts c 0 (Transfers.shareDrop fullShare 31) f ∗ bigSep Finset.univ fun k : Off => rowPts c k.succ fullShare f)
        ∗ bigSep Finset.univ fun k : Off => rowPts c 0 (Transfers.shareTok fullShare 31 k) f) : sProp 𝕄)
      ⊢ (((c : Thread nD τ).loc cc0_scratch0) ↦{fullShare} f) := by
  rw [scr_rows, bigSep_rows, row_lent c 0 f]
  iintro ⟨⟨H0, Hr⟩, Ht⟩
  isplitr [Hr]
  · isplitl [H0] <;> iassumption
  iexact Hr

/-- A loop over the offsets. -/
theorem wp_loop (c : Dev nD) (f : Off → TpuEff nD τ sig (Elt F) Λ₀ .tc PUnit) (pre post : Off → sProp 𝕄) (sh : List Off → sProp 𝕄)
    (Q : PUnit → sProp 𝕄)
    (hstep : ∀ b l (p : Prog (TpuEff nD τ sig (Elt F) Λ₀ .tc) PUnit), iprop(pre b ∗ sh (b :: l))
      ⊢ iprop(((post b ∗ sh l) -∗ wp frame (wpE (defs₀ (F := F)) 𝒱₀ (c : Thread nD τ) none) Set.univ p Q)
          -∗ wp frame (wpE (defs₀ (F := F)) 𝒱₀ (c : Thread nD τ) none) Set.univ (.op (f b) fun _ => p) Q))
    (p : Prog (TpuEff nD τ sig (Elt F) Λ₀ .tc) PUnit) :
    iprop((bigSep Finset.univ pre) ∗ sh offs)
      ⊢ iprop((((bigSep Finset.univ post) ∗ sh []) -∗ wp frame (wpE (defs₀ (F := F)) 𝒱₀ (c : Thread nD τ) none) Set.univ p Q)
          -∗ wp frame (wpE (defs₀ (F := F)) 𝒱₀ (c : Thread nD τ) none) Set.univ (runOver offs f p) Q) := by
  rw [← allOf_offs pre, ← allOf_offs post]
  exact wp_runOver c f pre post sh Q hstep p offs

/-! ## What the body starts from and leaves -/

variable (m : (ℓ : Loc nD τ sig) → Buf (Elt F) ℓ) (K : GSem nD τ sig → ℕ)

/-- A buffer held whole at the contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The tokens of the duties a device pays. -/
def payToks (c : Dev nD) : sProp 𝕄 :=
  iprop((bigSep Finset.univ fun k : Off => dutyTok ER (barCell (peer k c)) 0 k)
    ∗ (bigSep Finset.univ fun k : Off => dutyTok ER (sendCell c k) 0 0)
    ∗ (bigSep Finset.univ fun k : Off => dutyTok ER (recvCell (peer k c) k) 0 0))

/-- The credit for what a device waits that others owe it. -/
def credits (c : Dev nD) : sProp 𝕄 :=
  iprop(cred (tallyAt (barCell c) () 31) ∗ bigSep Finset.univ fun k : Off => cred (tallyAt (recvCell c k) () N))

/-- What the body starts from, of the protocol: the records, its positions, its tokens, its credit and the levels. -/
def opened (c : Dev nD) : sProp 𝕄 :=
  iprop(Recs m K c ∗ atPos ER (barCell c) 0 ∅ 0 ∗ (bigSep Finset.univ fun k : Off => atPos ER (sendCell c k) 0 ∅ 0)
    ∗ (bigSep Finset.univ fun k : Off => atPos ER (recvCell c k) 0 ∅ 0) ∗ payToks c ∗ credits c ∗ levAts L lv)

/-- Its semaphores when it is done. -/
def closed (c : Dev nD) : sProp 𝕄 :=
  iprop(semVal (barCell c) 0 ∗ (bigSep Finset.univ fun k : Off => semVal (sendCell c k) 0)
    ∗ (bigSep Finset.univ fun k : Off => semVal (recvCell c k) 0))

def bodyPre (c : Dev nD) : sProp 𝕄 :=
  iprop(opened m K c ∗ (∃ f, (((c : Thread nD τ).loc cc0_scratch0) ↦{fullShare} f)) ∗ (∃ W, owes (c : Thread nD τ) (O₀ c) W)
    ∗ stg c cc0_stg0_0 (xblk m c) ∗ stg c cc0_stg1_0 (gblk m c) ∗ ∃ X, stg c cc0_stg2_0 X)

def bodyPost (c : Dev nD) : sProp 𝕄 :=
  iprop(closed c ∗ (∃ f, (((c : Thread nD τ).loc cc0_scratch0) ↦{fullShare} f)) ∗ (∃ W, owes (c : Thread nD τ) 0 W)
    ∗ stg c cc0_stg0_0 (xblk m c) ∗ stg c cc0_stg1_0 (gblk m c) ∗ stg c cc0_stg2_0 (outAt m c))

omit [FloatOps F] in
theorem hz : (![0, 0] : Fin 2 → Nat) = fun _ => 0 := funext fun a => by fin_cases a <;> rfl

set_option maxHeartbeats 1000000 in
set_option synthInstance.maxSize 4096 in
/-- The body, run. -/
theorem sound_body (c : Dev nD) (Q : PUnit → sProp 𝕄) :
    iprop(bodyPre m K c ∗ (bodyPost m c -∗ Q ⟨⟩))
      ⊢ wp frame (wpE (defs₀ (F := F)) 𝒱₀ (c : Thread nD τ) none) Set.univ
          (flatBody (Memref.whole cc0_stg0_0) (Memref.whole cc0_stg1_0) (Memref.whole cc0_stg2_0) scr cc0_scratch1 cc0_scratch2) Q := by
  unfold flatBody
  simp only [wp_deviceId, sigTargets_eq, copyTargets_eq, runOver_map]
  unfold bodyPre opened payToks credits O₀
  iintro ⟨⟨⟨#HR, HaB, HaS, HaV, ⟨HtB, HtS, HtV⟩, ⟨HcB, HcV⟩, #Hlev⟩, ⟨%f0, Hscr⟩, ⟨%W, HO⟩, ⟨%gx, %hgx, Hx⟩, ⟨%gg, %hgg, Hg⟩, ⟨%X2, %go, %hgo, Hout⟩⟩, HQ⟩
  subst hgx
  subst hgg
  -- the signals
  ihave Hsp := (scr_apart c f0) $$ Hscr
  icases Hsp with ⟨Hr0, Hrows⟩
  iapply (wp_loop c _ (sigPre c) (fun _ => iprop(emp)) (fun l => iprop(Recs m K c ∗ owes (c : Thread nD τ) (sigOwed c l) W)) Q
    (fun k l p => sig_step m K c W Q k l p) _) $$ [HtB Hrows HO]
  · isplitl [HtB Hrows]
    · unfold sigPre
      iapply bigSep_pair
      isplitl [HtB] <;> iassumption
    isplitr; · iexact HR
    iexact HO
  iintro ⟨-, -, HO⟩
  -- its own row
  iapply (wp_load 𝒱₀ (c : Thread nD τ) none Set.univ (m := Memref.whole cc0_stg0_0) (Finset.subset_univ _)) $$ Hx
  iintro Hx
  iapply (wp_load_rect 𝒱₀ (c : Thread nD τ) none Set.univ (m := scr) (Finset.Subset.refl _)) $$ Hr0
  iintro Hr0
  iapply (wp_store 𝒱₀ (c : Thread nD τ) none Set.univ (m := scr)
    (r := Rect.unit (s := S32x768) ![0, 0] S1x768.size inb_S32x768_S1x768_0_0) (S := (rowOf scr 0).view.set) (Mk := Finset.univ)
    (Finset.Subset.refl _)) $$ Hr0
  iintro Hr0
  rw [show (Memref.whole cc0_stg0_0 : Memref sig .tc .vmem S768x512 .bf16).view.readAt (Elt F)
      (Rect.unit (s := S768x512) ![0, 0] S768x512.size inb_S768x512_S768x512_0_0).toLoadRect (xblk m c) = xblk m c
    from Memref.readAt_unit_zero (Elt F) cc0_stg0_0 hz _ _]
  ihave Hr0 := (show ((scr.access (Rect.unit (s := S32x768) ![0, 0] S1x768.size inb_S32x768_S1x768_0_0)).loc (c : Thread nD τ)
      ↦[(rowOf scr 0).view.set]{fullShare} (scr.access (Rect.unit (s := S32x768) ![0, 0] S1x768.size inb_S32x768_S1x768_0_0)).write
        (Elt F) f0 (k0_pay2 (xblk m c)) Finset.univ : sProp 𝕄) ⊢ rowPts c 0 fullShare (sums m c)
    from Entails.of_eq (row_stored m c fullShare f0)) $$ Hr0
  ihave Hr0 := (Entails.of_eq (row_lent c 0 (sums m c))) $$ Hr0
  icases Hr0 with ⟨Hr0, Hlent⟩
  -- the wait for the others' signals: the rows the copies fill come with it
  iapply (Rounds.wp_wait_rest_token 𝒱₀ ER (Rd m) (c : Thread nD τ) none (κ := K (barCell c))
      (wpE_semWait_eq 𝒱₀ (c : Thread nD τ) none Set.univ) (Set.mem_univ _) () (O := copyOwed c offs) (W := W) (R := 0) (m := 0) (T := ∅)
      (by rw [expect_bar])) $$ [HcB HO HaB]
  · isplitr; · iapply ((Recs_bar m K c c).trans sep_elim_left); iexact HR
    isplitl [HcB]; · iexact HcB
    isplitl [HO]; · iexact HO
    isplitr; · iapply (mayWait_bar c); iexact Hlev
    iexact HaB
  iintro ⟨HO, HaB, -, Hpay⟩
  ihave Hdst := (Entails.of_eq (rest_bar m c)) $$ Hpay
  imod (Rounds.cell_close ER (Rd m) (Set.mem_univ (K (barCell c))) (fun h => h) (R := 0 + 1) (duties_later m (barCell c))) $$ [HaB] with HzB
  · isplitr; · iapply ((Recs_bar m K c c).trans sep_elim_left); iexact HR
    iexact HaB
  -- the copies
  iapply (wp_loop c _ (copyPre m c) (copyPost c)
    (fun l => iprop(Recs m K c ∗ owes (c : Thread nD τ) (copyOwed c l) (insert (SemLoc.reg barS, ()) W))) Q
    (fun k l p => copy_step m K c _ Q k l p) _) $$ [Hlent Hdst HtS HtV HO]
  · isplitl [Hlent Hdst HtS HtV]
    · unfold copyPre
      iapply bigSep_pair; isplitl [Hlent]; · iexact Hlent
      iapply bigSep_pair; isplitl [Hdst]; · iexact Hdst
      iapply bigSep_pair
      isplitl [HtS] <;> iassumption
    isplitr; · iexact HR
    iexact HO
  unfold copyPost
  iintro ⟨HcS, -, HO⟩
  -- the scale
  iapply (wp_load 𝒱₀ (c : Thread nD τ) none Set.univ (m := Memref.whole cc0_stg1_0) (Finset.subset_univ _)) $$ Hg
  iintro Hg
  rw [show (Memref.whole cc0_stg1_0 : Memref sig .tc .vmem S1x512 .bf16).view.readAt (Elt F)
      (Rect.unit (s := S1x512) ![0, 0] S1x512.size inb_S1x512_S1x512_0_0).toLoadRect (gblk m c) = gblk m c
    from Memref.readAt_unit_zero (Elt F) cc0_stg1_0 hz _ _]
  -- the copies that arrive
  iapply (wp_loop c _ (recvPre c) (recvPost m c) (waiting m K c) Q (fun k l p => recv_step m K c Q k l p) _) $$ [HcV HaV HO]
  · isplitl [HcV HaV]
    · unfold recvPre
      iapply bigSep_pair
      isplitl [HcV] <;> iassumption
    unfold waiting
    isplitr; · iexact HR
    iexists _; iexact HO
  unfold recvPost
  iintro ⟨Hrv, Hw⟩
  ihave Hrv := bigSep_unpair $$ Hrv
  icases Hrv with ⟨Hrows, HzV⟩
  -- the whole scratch read, row 0 still lent
  ihave Hscr := (Entails.of_eq (scr_read c (sums m c))) $$ [Hr0 Hrows]
  · isplitl [Hr0] <;> iassumption
  icases Hscr with ⟨Hscr, Hcut⟩
  iapply (wp_load 𝒱₀ (c : Thread nD τ) none Set.univ (m := scr) (Finset.subset_univ _)) $$ Hscr
  iintro Hscr
  rw [show (scr : Memref sig .tc .vmem S32x768 .f32).view.readAt (Elt F)
      (Rect.unit (s := S32x768) ![0, 0] S32x768.size inb_S32x768_S32x768_0_0).toLoadRect (sums m c) = sums m c
    from Memref.readAt_unit_zero (Elt F) cc0_scratch0 hz _ _]
  ihave Hrows := (Entails.of_eq (scr_read c (sums m c)).symm) $$ [Hscr Hcut]
  · isplitl [Hscr] <;> iassumption
  -- the block written
  iapply (wp_load 𝒱₀ (c : Thread nD τ) none Set.univ (m := Memref.whole cc0_stg2_0) (Finset.subset_univ _)) $$ Hout
  iintro Hout
  iapply (wp_store 𝒱₀ (c : Thread nD τ) none Set.univ (m := Memref.whole cc0_stg2_0)
    (r := Rect.unit (s := S768x512) ![0, 0] S768x512.size inb_S768x512_S768x512_0_0) (Mk := Finset.univ) (Finset.subset_univ _)) $$ Hout
  iintro Hout
  ihave Hout := (show (((Memref.whole cc0_stg2_0).access (Rect.unit (s := S768x512) ![0, 0] S768x512.size inb_S768x512_S768x512_0_0)).loc (c : Thread nD τ)
      ↦{fullShare} ((Memref.whole cc0_stg2_0).access (Rect.unit (s := S768x512) ![0, 0] S768x512.size inb_S768x512_S768x512_0_0)).write
        (Elt F) go (k0_pay4 (k0_pay3 (k0_pay1 (xblk m c)) (gblk m c)) (sums m c)) Finset.univ : sProp 𝕄) ⊢ (((c : Thread nD τ).loc cc0_stg2_0) ↦{fullShare} outAt m c)
    from Entails.of_eq (congrArg (fun f => (((c : Thread nD τ).loc cc0_stg2_0) ↦{fullShare} f : sProp 𝕄))
    (Memref.write_access_unit_zero_univ (Elt F) cc0_stg2_0 hz inb_S768x512_S768x512_0_0 go (outAt m c)))) $$ Hout
  -- the copies sent
  iapply (wp_loop c _ (sentPre c) (sentPost m c) (waiting m K c) Q (fun k l p => sent_step m K c Q k l p) _) $$ [HcS HaS Hw]
  · isplitl [HcS HaS]
    · unfold sentPre
      iapply bigSep_pair
      isplitl [HcS] <;> iassumption
    iexact Hw
  unfold sentPost waiting
  iintro ⟨Hst, -, HO⟩
  ihave Hst := bigSep_unpair $$ Hst
  icases Hst with ⟨Hlent, HzS⟩
  ihave Hscr := (scr_whole c (sums m c)) $$ [Hrows Hlent]
  · isplitl [Hrows] <;> iassumption
  rw [wp_ret]; imodintro
  iapply HQ
  unfold bodyPost closed
  isplitl [HzB HzS HzV]
  · isplitl [HzB]; · iexact HzB
    isplitl [HzS] <;> iassumption
  isplitl [Hscr]; · iexists _; iexact Hscr
  isplitl [HO]; · iexact HO
  isplitl [Hx]
  · iexists _; isplitr; · (ipureintro; rfl)
    iexact Hx
  isplitl [Hg]
  · iexists _; isplitr; · (ipureintro; rfl)
    iexact Hg
  iexists _; isplitr; · (ipureintro; rfl)
  iexact Hout

end Cert.NormProof

end
-- ==== Proof.Deal.lean ====
/-
What the launch deals to the devices: cells, tokens, credit.

The barrier cells are funded from their counters. The send and receive cells are funded asleep, since their counters
exist only inside the kernel, and each device wakes its own there. Every token goes to the device that pays the duty.
-/
module

public import proofs.«01_k».proof.Proof.Body

@[expose] public section

noncomputable section

namespace Cert.NormProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)

variable {F : FTy → Type} [FloatOps F]

local notation "𝕄" => MT nD τ sig Unit (Elt F) ℕ UU ℕ

/-! ## Cells apart -/

theorem send_ne_bar (c d : Dev nD) (k : Off) : sendCell c k ≠ barCell d := fun h => by
  have h2 : slotOf (.dma (sendS k)) = slotOf (.reg barS) := congrArg (fun g : GSem nD τ sig => slotOf g.2) h
  rw [slot_send] at h2
  exact Slot.noConfusion h2

theorem recv_ne_bar (c d : Dev nD) (k : Off) : recvCell c k ≠ barCell d := fun h => by
  have h2 : slotOf (.dma (recvS k)) = slotOf (.reg barS) := congrArg (fun g : GSem nD τ sig => slotOf g.2) h
  rw [slot_recv] at h2
  exact Slot.noConfusion h2

theorem send_ne_recv (c d : Dev nD) (k j : Off) : sendCell c k ≠ recvCell d j := fun h => by
  have h2 : slotOf (.dma (sendS k)) = slotOf (.dma (recvS j)) := congrArg (fun g : GSem nD τ sig => slotOf g.2) h
  rw [slot_send, slot_recv] at h2
  exact Slot.noConfusion h2

theorem send_inj {c d : Dev nD} {k j : Off} (h : sendCell c k = sendCell d j) : c = d ∧ k = j := by
  have h2 : slotOf (.dma (sendS k)) = slotOf (.dma (sendS j)) := congrArg (fun g : GSem nD τ sig => slotOf g.2) h
  rw [slot_send, slot_send] at h2
  exact ⟨congrArg (fun g : GSem nD τ sig => g.1.1) h, Slot.send.inj h2⟩

theorem recv_inj {c d : Dev nD} {k j : Off} (h : recvCell c k = recvCell d j) : c = d ∧ k = j := by
  have h2 : slotOf (.dma (recvS k)) = slotOf (.dma (recvS j)) := congrArg (fun g : GSem nD τ sig => slotOf g.2) h
  rw [slot_recv, slot_recv] at h2
  exact ⟨congrArg (fun g : GSem nD τ sig => g.1.1) h, Slot.recv.inj h2⟩

theorem bar_inj {c d : Dev nD} (h : barCell c = barCell d) : c = d := congrArg (fun g : GSem nD τ sig => g.1.1) h

/-! ## The cells and the tokens -/

def barEmb : Dev nD ↪ GSem nD τ sig := ⟨fun c => barCell c, fun _ _ h => bar_inj h⟩
def sendEmb : Dev nD × Off ↪ GSem nD τ sig :=
  ⟨fun ck => sendCell ck.1 ck.2, fun _ _ h => Prod.ext (send_inj h).1 (send_inj h).2⟩
def recvEmb : Dev nD × Off ↪ GSem nD τ sig :=
  ⟨fun ck => recvCell ck.1 ck.2, fun _ _ h => Prod.ext (recv_inj h).1 (recv_inj h).2⟩

def barCells : Finset (GSem nD τ sig) := Finset.univ.map barEmb
def sendCells : Finset (GSem nD τ sig) := Finset.univ.map sendEmb
def recvCells : Finset (GSem nD τ sig) := Finset.univ.map recvEmb
def innerCells : Finset (GSem nD τ sig) := sendCells ∪ recvCells

theorem send_recv_disjoint : Disjoint sendCells recvCells := by
  rw [Finset.disjoint_left]
  intro g h1 h2
  obtain ⟨a, -, rfl⟩ := Finset.mem_map.mp h1
  obtain ⟨b, -, h⟩ := Finset.mem_map.mp h2
  exact send_ne_recv _ _ _ _ h.symm

theorem bar_inner_disjoint : Disjoint barCells innerCells := by
  rw [Finset.disjoint_left]
  intro g h1 h2
  obtain ⟨a, -, rfl⟩ := Finset.mem_map.mp h1
  rcases Finset.mem_union.mp h2 with h2 | h2
  · obtain ⟨b, -, h⟩ := Finset.mem_map.mp h2
    exact send_ne_bar _ _ _ h
  · obtain ⟨b, -, h⟩ := Finset.mem_map.mp h2
    exact recv_ne_bar _ _ _ h

abbrev Tok : Type := GSem nD τ sig × ℕ × Off

def barTokEmb : Dev nD × Off ↪ Tok :=
  ⟨fun ck => (barCell ck.1, 0, ck.2), fun _ _ h =>
    Prod.ext (bar_inj (congrArg (fun t : Tok => t.1) h)) (congrArg (fun t : Tok => t.2.2) h)⟩
/-- The token of the one duty at each cell of a family. -/
def oneTokEmb (e : Dev nD × Off ↪ GSem nD τ sig) : Dev nD × Off ↪ Tok :=
  ⟨fun ck => (e ck, 0, 0), fun _ _ h => e.injective (congrArg (fun t : Tok => t.1) h)⟩

def barToks : Finset Tok := Finset.univ.map barTokEmb
def sendToks : Finset Tok := Finset.univ.map (oneTokEmb sendEmb)
def recvToks : Finset Tok := Finset.univ.map (oneTokEmb recvEmb)
def toks : Finset Tok := barToks ∪ (sendToks ∪ recvToks)

theorem toks_disjoint_inner : Disjoint sendToks recvToks := by
  rw [Finset.disjoint_left]
  intro g h1 h2
  obtain ⟨a, -, rfl⟩ := Finset.mem_map.mp h1
  obtain ⟨b, -, h⟩ := Finset.mem_map.mp h2
  exact send_ne_recv _ _ _ _ (congrArg (fun t : Tok => t.1) h).symm

theorem toks_disjoint : Disjoint barToks (sendToks ∪ recvToks) := by
  rw [Finset.disjoint_left]
  intro g h1 h2
  obtain ⟨a, -, rfl⟩ := Finset.mem_map.mp h1
  rcases Finset.mem_union.mp h2 with h2 | h2
  · obtain ⟨b, -, h⟩ := Finset.mem_map.mp h2
    exact send_ne_bar _ _ _ (congrArg (fun t : Tok => t.1) h)
  · obtain ⟨b, -, h⟩ := Finset.mem_map.mp h2
    exact recv_ne_bar _ _ _ (congrArg (fun t : Tok => t.1) h)

omit [FloatOps F] in
/-- A family over devices and offsets, offsets first. -/
theorem swapped (Φ : Dev nD → Off → sProp 𝕄) :
    (bigSep Finset.univ fun c : Dev nD => bigSep Finset.univ fun k : Off => Φ c k)
      = bigSep Finset.univ fun k : Off => bigSep Finset.univ fun c : Dev nD => Φ c k := by
  rw [← bigSep_univ_prod fun ck : Dev nD × Off => Φ ck.1 ck.2, ← bigSep_univ_prod fun kc : Off × Dev nD => Φ kc.2 kc.1]
  exact bigSep_univ_equiv (Equiv.prodComm Off (Dev nD)) fun ck => Φ ck.1 ck.2

omit [FloatOps F] in
/-- A family over devices and offsets, dealt so that each device gets the entries of the devices its offsets reach. -/
theorem dealt (Φ : Dev nD → Off → sProp 𝕄) :
    (bigSep Finset.univ fun ck : Dev nD × Off => Φ ck.1 ck.2)
      = bigSep Finset.univ fun c : Dev nD => bigSep Finset.univ fun k : Off => Φ (peer k c) k := by
  rw [bigSep_univ_prod]
  show (bigSep Finset.univ fun c : Dev nD => bigSep Finset.univ fun k : Off => Φ c k) = _
  rw [swapped Φ, swapped fun (c : Dev nD) (k : Off) => Φ (peer k c) k]
  exact bigSep_congr fun k _ => bigSep_univ_equiv (turn k) fun c => Φ c k

omit [FloatOps F] in
/-- Every token, dealt to the device that pays the duty. -/
theorem toks_dealt : bigSep toks (fun x => (dutyTok ER x.1 x.2.1 x.2.2 : sProp 𝕄))
    ⊢ bigSep Finset.univ fun c : Dev nD => (payToks c : sProp 𝕄) := by
  have hbar : bigSep barToks (fun x => (dutyTok ER x.1 x.2.1 x.2.2 : sProp 𝕄))
      = bigSep Finset.univ fun c : Dev nD => bigSep Finset.univ fun k : Off => (dutyTok ER (barCell (peer k c)) 0 k : sProp 𝕄) := by
    unfold barToks
    rw [bigSep_map]
    exact dealt fun c k => (dutyTok ER (barCell c) 0 k : sProp 𝕄)
  have hsend : bigSep sendToks (fun x => (dutyTok ER x.1 x.2.1 x.2.2 : sProp 𝕄))
      = bigSep Finset.univ fun c : Dev nD => bigSep Finset.univ fun k : Off => (dutyTok ER (sendCell c k) 0 0 : sProp 𝕄) := by
    unfold sendToks
    rw [bigSep_map, bigSep_univ_prod]
    rfl
  have hrecv : bigSep recvToks (fun x => (dutyTok ER x.1 x.2.1 x.2.2 : sProp 𝕄))
      = bigSep Finset.univ fun c : Dev nD => bigSep Finset.univ fun k : Off => (dutyTok ER (recvCell (peer k c) k) 0 0 : sProp 𝕄) := by
    unfold recvToks
    rw [bigSep_map]
    exact dealt fun c k => (dutyTok ER (recvCell c k) 0 0 : sProp 𝕄)
  unfold toks payToks
  rw [bigSep_union toks_disjoint, bigSep_union toks_disjoint_inner, hbar, hsend, hrecv, bigSep_sep', bigSep_sep']
  exact BI.Entails.refl _

/-! ## The launch credit -/

/-- Together the devices owe the barrier of one of them a unit for each signal of the list. -/
theorem sum_copy_bar (c : Dev nD) : ∀ (d : Dev nD) (l : List Off), copyOwed d l (barCell c) () = 0
  | d, [] => rfl
  | d, k :: l => by
    unfold copyOwed
    rw [Pi.add_apply, Finsupp.add_apply, sum_copy_bar c d l, tallyAt_ne_cell (fun h => recv_ne_bar _ _ _ h.symm)]
    rfl

theorem sum_tally_bar (c : Dev nD) (k : Off) :
    ∑ d : Dev nD, (tallyAt (barCell (peer k d)) () 1 : CellTallies nD τ sig Unit) (barCell c) () = 1 := by
  rw [Finset.sum_eq_single (peer k.rev c)]
  · rw [tallyAt_apply, if_pos ⟨by rw [(peer_eq_iff k c _).mpr rfl], rfl⟩]
  · intro d _ hd
    rw [tallyAt_apply, if_neg fun h => hd ((peer_eq_iff k c d).mp (bar_inj h.1).symm)]
  · intro h; exact absurd (Finset.mem_univ _) h

theorem sum_bar (c : Dev nD) : ∀ l : List Off, ∑ d : Dev nD, sigOwed d l (barCell c) () = l.length
  | [] => Finset.sum_eq_zero fun d _ => sum_copy_bar c d offs
  | k :: l => by
    have e : ∀ d : Dev nD, sigOwed d (k :: l) (barCell c) ()
        = sigOwed d l (barCell c) () + (tallyAt (barCell (peer k d)) () 1 : CellTallies nD τ sig Unit) (barCell c) () := fun d => rfl
    rw [Finset.sum_congr rfl fun d _ => e d, Finset.sum_add_distrib, sum_bar c l, sum_tally_bar]
    rfl

theorem sum_tally_recv (c : Dev nD) (j k : Off) :
    ∑ d : Dev nD, (tallyAt (recvCell (peer j d) j) () N : CellTallies nD τ sig Unit) (recvCell c k) () = if j = k then N else 0 := by
  by_cases hjk : j = k
  · subst hjk
    rw [if_pos rfl, Finset.sum_eq_single (peer j.rev c)]
    · rw [tallyAt_apply, if_pos ⟨by rw [(peer_eq_iff j c _).mpr rfl], rfl⟩]
    · intro d _ hd
      rw [tallyAt_apply, if_neg fun h => hd ((peer_eq_iff j c d).mp (recv_inj h.1).1.symm)]
    · intro h; exact absurd (Finset.mem_univ _) h
  · rw [if_neg hjk]
    exact Finset.sum_eq_zero fun d _ => by rw [tallyAt_apply, if_neg fun h => hjk (recv_inj h.1).2.symm]

/-- Together they owe a receive cell one copy for each time its offset is in the list. -/
theorem sum_copy_recv (c : Dev nD) (k : Off) : ∀ l : List Off, ∑ d : Dev nD, copyOwed d l (recvCell c k) () = l.count k * N
  | [] => by rw [List.count_nil, Nat.zero_mul]; exact Finset.sum_eq_zero fun d _ => rfl
  | j :: l => by
    have e : ∀ d : Dev nD, copyOwed d (j :: l) (recvCell c k) ()
        = copyOwed d l (recvCell c k) () + (tallyAt (recvCell (peer j d) j) () N : CellTallies nD τ sig Unit) (recvCell c k) () := fun d => rfl
    rw [Finset.sum_congr rfl fun d _ => e d, Finset.sum_add_distrib, sum_copy_recv c k l, sum_tally_recv, List.count_cons]
    by_cases h : j = k
    · rw [if_pos h, if_pos (by rw [h]; exact beq_self_eq_true k), Nat.add_mul, Nat.one_mul]
    · rw [if_neg h, if_neg (by rw [beq_iff_eq]; exact h), Nat.add_zero, Nat.add_zero]

theorem sig_recv (c d : Dev nD) (k : Off) : ∀ l : List Off, sigOwed d l (recvCell c k) () = copyOwed d offs (recvCell c k) ()
  | [] => rfl
  | j :: l => by
    unfold sigOwed
    rw [Pi.add_apply, Finsupp.add_apply, sig_recv c d k l, tallyAt_ne_cell (recv_ne_bar _ _ _)]
    rfl

theorem offs_count : ∀ k : Off, offs.count k = 1 := by decide

theorem launch_bar (c : Dev nD) :
    tallyOn (barCell c) (launchCredit (Pipeline.owing O₀) 0 (barCell c)) = (tallyAt (barCell c) () 31 : CellTallies nD τ sig Unit) := by
  unfold tallyAt
  refine congrArg _ (Finsupp.ext fun u => ?_)
  cases u
  rw [Pipeline.launchCredit_owing, Finsupp.single_eq_same]
  exact sum_bar c offs

theorem launch_recv (c : Dev nD) (k : Off) :
    tallyOn (recvCell c k) (launchCredit (Pipeline.owing O₀) 0 (recvCell c k)) = (tallyAt (recvCell c k) () N : CellTallies nD τ sig Unit) := by
  unfold tallyAt
  refine congrArg _ (Finsupp.ext fun u => ?_)
  cases u
  rw [Pipeline.launchCredit_owing, Finsupp.single_eq_same]
  exact (Finset.sum_congr rfl fun d _ => sig_recv c d k offs).trans (by rw [sum_copy_recv, offs_count, Nat.one_mul])

def recvSemEmb : Off ↪ SemLoc sig :=
  ⟨fun k => .dma (recvS k), fun j k h => (recv_inj (c := (0 : Dev nD)) (d := 0) (congrArg (fun sm => (((0 : Dev nD) : Thread nD τ), sm)) h)).2⟩

omit [FloatOps F] in
/-- The launch credit of a device holds what it waits for. -/
theorem creds (c : Dev nD) : (Pipeline.launchCred O₀ c : sProp 𝕄) ⊢ credits c := by
  unfold Pipeline.launchCred credits
  rw [bigSep_univ_at _ (SemLoc.reg barS), launch_bar]
  have e : (bigSep Finset.univ fun k : Off => (cred (tallyAt (recvCell c k) () N) : sProp 𝕄))
      = bigSep (Finset.univ.map recvSemEmb) fun sm : SemLoc sig =>
          cred (tallyOn ((c : Thread nD τ), sm) (launchCredit (Pipeline.owing O₀) 0 ((c : Thread nD τ), sm))) := by
    rw [bigSep_map]
    exact bigSep_congr fun k _ => by rw [← launch_recv]; rfl
  rw [e]
  refine sep_mono_right (bigSep_subset fun sm h => ?_)
  obtain ⟨k, -, rfl⟩ := Finset.mem_map.mp h
  exact Finset.mem_erase.mpr ⟨fun e => recv_ne_bar c c k (congrArg (fun sm => ((c : Thread nD τ), sm)) e), Finset.mem_univ _⟩

/-! ## Waking the cells inside the kernel -/

/-- The kernel's own semaphores: the send semaphores and the receive semaphores. -/
def osem (bj : Bool × Fin 32) : SemLoc sig := .dma (if bj.1 then semAt cc0_scratch2 bj.2 else semAt cc0_scratch1 bj.2)

/-- The two semaphores no copy uses. -/
def spare (c : Dev nD) : sProp 𝕄 :=
  iprop(semVal ((c : Thread nD τ), .dma (semAt cc0_scratch1 (0 : Fin 32))) 0 ∗ semVal ((c : Thread nD τ), .dma (semAt cc0_scratch2 (0 : Fin 32))) 0)

omit [FloatOps F] in
theorem bigSep_two (Φ : Bool → sProp 𝕄) : bigSep Finset.univ Φ = iprop(Φ false ∗ Φ true) := by
  rw [show (Finset.univ : Finset Bool) = {false, true} by decide, bigSep_insert (by decide), bigSep_singleton]; rfl

omit [FloatOps F] in
theorem ownSems_eq (c : Dev nD) : (Pipeline.ownSems0 osem c : sProp 𝕄)
    = iprop((semVal ((c : Thread nD τ), .dma (semAt cc0_scratch1 (0 : Fin 32))) 0 ∗ bigSep Finset.univ fun k : Off => semVal (sendCell c k) 0)
      ∗ (semVal ((c : Thread nD τ), .dma (semAt cc0_scratch2 (0 : Fin 32))) 0 ∗ bigSep Finset.univ fun k : Off => semVal (recvCell c k) 0)) := by
  unfold Pipeline.ownSems0
  rw [bigSep_univ_prod, bigSep_two, bigSep_rows, bigSep_rows]
  rfl

variable (m : (ℓ : Loc nD τ sig) → Buf (Elt F) ℓ)

/-- The invariants of all cells, and the first round of every barrier reached. -/
def Base (K : GSem nD τ sig → ℕ) : sProp 𝕄 :=
  iprop((bigSep Finset.univ fun d : Dev nD => iprop(cellInv ER (Rd m) (K (barCell d)) (barCell d) ∗ reached ER (barCell d) 0))
    ∗ (bigSep Finset.univ fun dk : Dev nD × Off => cellInv ER (Rd m) (K (recvCell dk.1 dk.2)) (recvCell dk.1 dk.2))
    ∗ (bigSep Finset.univ fun dk : Dev nD × Off => cellInv ER (Rd m) (K (sendCell dk.1 dk.2)) (sendCell dk.1 dk.2)))

instance Base_persistent (K : GSem nD τ sig → ℕ) : BI.Persistent (Base m K) := by unfold Base; infer_instance

/-- What the launch leaves with a device for itself: its barrier position, its rights to wake cells, its tokens. -/
def own₀ (c : Dev nD) : sProp 𝕄 :=
  iprop(atPos ER (barCell c) 0 ∅ 0 ∗ (bigSep Finset.univ fun k : Off => openTok ER (sendCell c k))
    ∗ (bigSep Finset.univ fun k : Off => openTok ER (recvCell c k)) ∗ payToks c)

/-- A family of cells woken at once. -/
theorem wake (K : GSem nD τ sig → ℕ) (cell : Off → GSem nD τ sig) :
    iprop((bigSep Finset.univ fun k => cellInv ER (Rd m) (K (cell k)) (cell k)) ∗ (bigSep Finset.univ fun k => openTok ER (cell k))
        ∗ (bigSep Finset.univ fun k => semVal (cell k) 0))
      ⊢ iprop(|={Set.univ}=> ((bigSep Finset.univ fun k => atPos ER (cell k) 0 ∅ 0) ∗ (bigSep Finset.univ fun k => reached ER (cell k) 0)) : sProp 𝕄) := by
  rw [← bigSep_sep', ← bigSep_sep', ← bigSep_sep']
  exact (bigSep_mono fun k _ => Rounds.cell_open ER (Rd m) (g := cell k) (Set.mem_univ (K (cell k)))).trans (bigSep_fupd _ _)

/-- The invariants of one device's cells out of those of all. -/
theorem inv_own (c : Dev nD) (K : GSem nD τ sig → ℕ) (cell : Dev nD → Off → GSem nD τ sig) :
    (bigSep Finset.univ fun dk : Dev nD × Off => (cellInv ER (Rd m) (K (cell dk.1 dk.2)) (cell dk.1 dk.2) : sProp 𝕄))
      ⊢ bigSep Finset.univ fun k : Off => cellInv ER (Rd m) (K (cell c k)) (cell c k) := by
  rw [bigSep_univ_prod]
  exact bigSep_elim (Φ := fun d : Dev nD => bigSep Finset.univ fun k : Off => (cellInv ER (Rd m) (K (cell d k)) (cell d k) : sProp 𝕄)) (Finset.mem_univ c)

/-- What a device brings to the kernel. -/
def brought (c : Dev nD) : sProp 𝕄 := iprop((∃ K, Base m K ∗ own₀ c) ∗ credits c)

/-- What it holds once its cells are awake. -/
def awake (c : Dev nD) : sProp 𝕄 := iprop((∃ K, opened m K c) ∗ spare c)

theorem waking (c : Dev nD) : iprop(brought m c ∗ Pipeline.ownSems0 osem c ∗ levAts L lv) ⊢ (|={Set.univ}=> awake m c : sProp 𝕄) := by
  rw [ownSems_eq]
  unfold brought awake own₀ spare
  iintro ⟨⟨⟨%K, #HB, Hat, HoS, HoR, Htok⟩, Hcr⟩, ⟨⟨Hs0, Hs⟩, Hr0, Hr⟩, #Hlev⟩
  unfold Base
  icases HB with ⟨#Hbar, #Hrecv, #Hsend⟩
  ihave #HIs := (inv_own m c K fun d k => sendCell d k) $$ Hsend
  ihave #HIr := (inv_own m c K fun d k => recvCell d k) $$ Hrecv
  imod (wake m K fun k => sendCell c k) $$ [HoS Hs] with ⟨HatS, #HrS⟩
  · isplitr; · iexact HIs
    isplitl [HoS] <;> iassumption
  imod (wake m K fun k => recvCell c k) $$ [HoR Hr] with ⟨HatR, #HrR⟩
  · isplitr; · iexact HIr
    isplitl [HoR] <;> iassumption
  imodintro
  isplitr [Hs0 Hr0]
  · iexists K
    unfold opened Recs
    isplitr
    · isplitr; · iexact Hbar
      isplitr; · iexact Hrecv
      isplitr; · iexact Hsend
      iapply bigSep_pair
      isplitr; · iexact HrS
      iexact HrR
    isplitl [Hat]; · iexact Hat
    isplitl [HatS]; · iexact HatS
    isplitl [HatR]; · iexact HatR
    isplitl [Htok]; · iexact Htok
    isplitl [Hcr]; · iexact Hcr
    iexact Hlev
  isplitl [Hs0] <;> iassumption

end Cert.NormProof

end
-- ==== Proof.Launch.lean ====
/-
The run of the whole program: the host's reshape, then the kernel, on all devices at once.
-/
module

public import proofs.«01_k».proof.Proof.Deal

@[expose] public section

noncomputable section

namespace Cert.NormProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Smoke (bigSep_pair bigSep_unpair)

variable {F : FTy → Type} [FloatOps F]

local notation "𝕄" => MT nD τ sig Unit (Elt F) ℕ UU ℕ

variable (m : (ℓ : Loc nD τ sig) → Buf (Elt F) ℓ) (ρ : Dev nD → PrngReg)

/-! ## The buffers of the host -/

abbrev V₀ (c : Dev nD) : Valuation τ sig (Elt F) := fun b => m (c, b)
/-- After the reshape. -/
abbrev V₁ (c : Dev nD) : Valuation τ sig (Elt F) := StableHlo.after hostOps0 (V₀ m c)
/-- After the kernel. -/
abbrev V₂ (c : Dev nD) : Valuation τ sig (Elt F) := Function.update (V₁ m c) (Proc.devRef .tc main_v2) (outAt m c)

theorem V₂_out (c : Dev nD) : V₂ m c main_v2 = outAt m c := Function.update_self ..
theorem V₂_x (c : Dev nD) : V₂ m c main_arg0 = V₁ m c main_arg0 := Function.update_of_ne (by decide) ..
theorem V₂_gamma (c : Dev nD) : V₂ m c main_arg1 = V₁ m c main_arg1 := Function.update_of_ne (by decide) ..
theorem V₂_row (c : Dev nD) : V₂ m c main_v1 = V₁ m c main_v1 := Function.update_of_ne (by decide) ..

/-- A buffer of device `c`, whole. -/
abbrev pt (c : Dev nD) (b : Ref sig .tc) (f : Buf (Elt F) ((c : Thread nD τ).loc b)) : sProp 𝕄 := ((c : Thread nD τ).loc b) ↦{fullShare} f

/-- The buffers that outlive the kernel. -/
def bufs : Finset (DevRef τ sig) := (StableHlo.tcRefs τ sig).filter fun b => ¬ b.isScoped

omit [FloatOps F] in
theorem bufs_whole (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

omit [FloatOps F] in
theorem bufs_eq (c : Dev nD) (W : Valuation τ sig (Elt F)) : (StableHlo.held (c : Thread nD τ) bufs W : sProp 𝕄)
    = iprop(pt c main_arg0 (W main_arg0) ∗ pt c main_arg1 (W main_arg1) ∗ pt c main_v1 (W main_v1) ∗ pt c main_v2 (W main_v2)) := by
  unfold StableHlo.held
  rw [bigSep_eq_bigSepL_of_eq [Proc.devRef .tc main_arg0, Proc.devRef .tc main_arg1, Proc.devRef .tc main_v1, Proc.devRef .tc main_v2] (by decide) (by decide)]
  rfl

omit [FloatOps F] in
theorem arrays_eq (c : Dev nD) (W : Valuation τ sig (Elt F)) :
    (StableHlo.held (c : Thread nD τ) (Pipeline.arrRefs (τ := τ) spec0) W : sProp 𝕄)
      = iprop(pt c main_arg0 (W main_arg0) ∗ pt c main_v1 (W main_v1) ∗ pt c main_v2 (W main_v2)) := by
  unfold StableHlo.held
  rw [bigSep_eq_bigSepL_of_eq [Proc.devRef .tc main_arg0, Proc.devRef .tc main_v1, Proc.devRef .tc main_v2] (by decide) (by decide)]
  rfl

/-- The buffer no window stands for. -/
abbrev gammaRef : Finset (DevRef τ sig) := {Proc.devRef .tc main_arg1}

omit [FloatOps F] in
theorem gamma_eq (c : Dev nD) (W : Valuation τ sig (Elt F)) :
    (StableHlo.held (c : Thread nD τ) gammaRef W : sProp 𝕄) = pt c main_arg1 (W main_arg1) := by
  unfold StableHlo.held
  rw [bigSep_singleton]

omit [FloatOps F] in
theorem none_held (c : Dev nD) (W : Valuation τ sig (Elt F)) :
    (StableHlo.held (c : Thread nD τ) (∅ : Finset (DevRef τ sig)) W : sProp 𝕄) = BI.emp := by
  unfold StableHlo.held
  exact BI.bigSep_empty

omit [FloatOps F] in
theorem barrier_sem (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-! ## The kernel's proof data -/

abbrev scratch (c : Dev nD) : sProp 𝕄 := iprop(∃ f : Buf (Elt F) ((c : Thread nD τ).loc cc0_scratch0), ((c : Thread nD τ).loc cc0_scratch0) ↦{fullShare} f)

/-- What the kernel holds beside its windows, at the start. -/
def atStart (c : Dev nD) : sProp 𝕄 := iprop(awake m c ∗ scratch c ∗ ∃ r, prngReg c r)
/-- And at the end. -/
def atEnd (c : Dev nD) : sProp 𝕄 := iprop(closed c ∗ spare c ∗ scratch c ∗ ∃ r, prngReg c r)

def dat (c : Dev nD) : Pipeline.Dat τ (Elt F) Unit ℕ UU ℕ cfg0 c where
  A w := V m c (Pipeline.arrRef spec0 w)
  after w _ := match w with
    | ⟨0, _⟩ => xblk m c
    | ⟨1, _⟩ => gblk m c
    | ⟨2, _⟩ => outAt m c
  Φ t := if t.val = 0 then atStart m c else atEnd c
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat m

theorem share_whole (c : Dev nD) (w : Fin 3) : (dat m c).share w = fullShare := by unfold Dat.share; split <;> rfl

theorem Φ_first (c : Dev nD) : (dat m c).Φ t0_0.castSucc = atStart m c := by
  show (if (t0_0.castSucc : Fin (cfg0.N + 1)).val = 0 then atStart m c else atEnd c) = _
  exact if_pos rfl
theorem Φ_last (c : Dev nD) : (dat m c).Φ t0_0.succ = atEnd c := by
  show (if (t0_0.succ : Fin (cfg0.N + 1)).val = 0 then atStart m c else atEnd c) = _
  exact if_neg (Nat.succ_ne_zero _)
theorem owed_first (c : Dev nD) : (dat m c).owed t0_0.castSucc = O₀ c := by
  show (if (t0_0.castSucc : Fin (cfg0.N + 1)).val = 0 then O₀ c else 0) = _
  exact if_pos rfl
theorem owed_last (c : Dev nD) : (dat m c).owed t0_0.succ = 0 := by
  show (if (t0_0.succ : Fin (cfg0.N + 1)).val = 0 then O₀ c else 0) = _
  exact if_neg (Nat.succ_ne_zero _)

/-- What is owed, put in the pipeline's form. -/
theorem owed_in (c : Dev nD) (t : Fin (cfg0.N + 1)) (O : CellTallies nD τ sig Unit) (h : (dat m c).owed t = O) (W : Waits sig Unit) :
    (owes (c : Thread nD τ) O W : sProp 𝕄) ⊢ ((dat m c).owesAt () t : sProp 𝕄) := by
  unfold Dat.owesAt Pipeline.owesWithin Dat.bound
  rw [h, show (dat m c).recorded t = Set.univ from rfl]
  iintro HO
  iexists W
  isplitr; · ipureintro; exact fun _ _ => Or.inl trivial
  iexact HO

/-- And taken out of it. -/
theorem owed_out (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin
  rw [h]
  iintro ⟨%W, -, HO⟩
  iexists W
  iexact HO

omit [FloatOps F] in
theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns
  simp only [Memref.view_whole, View.read_whole, View.set_whole]

theorem before_x (c : Dev nD) (d) : (dat m c).before 0 t0_0 d = xblk m c := by
  unfold Dat.before; rw [if_pos (fetch0_0 _)]; rfl
theorem before_gamma (c : Dev nD) (d) : (dat m c).before 1 t0_0 d = gblk m c := by
  unfold Dat.before; rw [if_pos (fetch0_1 _)]; rfl

/-- What the pipeline calls is the loops of `flatBody` on the staging buffers. -/
theorem call_eq : defs₀ (F := F) .tc cfg0.body (cfg0.bodyArgs t0_0 (cfg0.slots t0_0))
    = flatBody (Memref.whole cc0_stg0_0) (Memref.whole cc0_stg1_0) (Memref.whole cc0_stg2_0) scr cc0_scratch1 cc0_scratch2 :=
  (show defs₀ (F := F) .tc cfg0.body (cfg0.bodyArgs t0_0 (cfg0.slots t0_0)) = bodyAt0 t0_0 from rfl).trans
    (body_eq_flat _ _ _ _ _ _ _ _ _ _)

/-- The kernel's body meets what the pipeline asks of it. -/
theorem body_ok (c : Dev nD) : BodyObligation (dat (F := F) m c) (defs₀ (F := F)) 𝒱₀ () Set.univ := fun t => by
  obtain rfl := fin_N0 t
  rw [bigSep_W0, bigSep_W0]
  simp only [owns_stage]
  rw [Φ_first, Φ_last]
  unfold atStart atEnd awake
  rw [call_eq]
  iintro ⟨⟨⟨⟨%K, Hop⟩, Hsp⟩, Hscr, Hreg⟩, HO, ⟨%d0, %f0, %hf0, H0⟩, ⟨%d1, %f1, %hf1, H1⟩, ⟨%d2, %f2, %hf2, H2⟩⟩
  rw [before_x] at hf0
  rw [before_gamma] at hf1
  ihave HO := (owed_out m c _ (O₀ c) (owed_first m c)) $$ HO
  iapply (sound_body m K c _)
  isplitl [Hop Hscr HO H0 H1 H2]
  · unfold bodyPre
    isplitl [Hop]; · iexact Hop
    isplitl [Hscr]; · iexact Hscr
    isplitl [HO]; · iexact HO
    isplitl [H0]; · iexists f0; isplitr; · ipureintro; exact hf0
                    iexact H0
    isplitl [H1]; · iexists f1; isplitr; · ipureintro; exact hf1
                    iexact H1
    iexists f2; iexists f2; isplitr; · ipureintro; rfl
    iexact H2
  unfold bodyPost
  iintro ⟨Hcl, Hscr, ⟨%W, HO⟩, ⟨%g0, %hg0, H0⟩, ⟨%g1, %hg1, H1⟩, ⟨%g2, %hg2, H2⟩⟩
  isplitl [Hcl Hsp Hscr Hreg]
  · isplitl [Hcl]; · iexact Hcl
    isplitl [Hsp]; · iexact Hsp
    isplitl [Hscr] <;> iassumption
  isplitl [HO]; · iapply (owed_in m c t0_0.succ 0 (owed_last m c) W); iexact HO
  isplitl [H0]; · iexists g0; isplitr; · ipureintro; exact hg0
                  iexact H0
  isplitl [H1]; · iexists g1; isplitr; · ipureintro; exact hg1
                  iexact H1
  iexists g2; isplitr; · ipureintro; exact hg2
  iexact H2

/-! ## The two segments -/

/-- What rides past the reshape: all a device brings to the kernel, its register, what it owes. -/
def ride (c : Dev nD) : sProp 𝕄 := iprop(brought m c ∗ (∃ r, prngReg c r) ∗ ∃ W, owes (c : Thread nD τ) (O₀ c) W)

theorem reshape_bufs : ∀ op ∈ (hostOps0 : List (HloOp τ sig (Elt F))), op.bufs ⊆ bufs := fun op h => by
  rw [List.mem_singleton] at h
  subst h
  show ({Proc.devRef .tc main_arg1, Proc.devRef .tc main_v1} : Finset (DevRef τ sig)) ⊆ bufs
  decide

theorem reshape_fresh : ∀ op ∈ (hostOps0 : List (HloOp τ sig (Elt F))), op.fresh = ∅ :=
  List.forall_iff_forall_mem.mp hostOps0_fresh

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- The host's reshape. -/
def segHost : ℍ := Pipeline.HostSeg.ofOps _ _ _ _ _ bufs hostOps0 reshape_bufs reshape_fresh (V₀ m) (ride m)

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem osem_ok : Pipeline.OwnSemFacts spec0 osem := by decide +kernel

theorem start_from (c : Dev nD) :
    iprop(Pipeline.scopedRest (Pipeline.pin (pcfgs (F := F)) adm 0).spec c ∗ (∃ r, prngReg c r)
      ∗ StableHlo.held (c.tc : Thread nD τ) (∅ : Finset (DevRef τ sig)) (V₁ m c) ∗ awake m c) ⊢ (pdats m 0 c).Φ 0 := by
  rw [show (pdats m 0 c).Φ 0 = atStart m c from Φ_first m c,
    show Pipeline.scopedRest (Pipeline.pin (pcfgs (F := F)) adm 0).spec c = (scratch c : sProp 𝕄) from scopedRest0_eq c]
  unfold atStart
  iintro ⟨Hs, Hp, -, HA⟩
  isplitl [HA]; · iexact HA
  isplitl [Hs] <;> iassumption

theorem end_to (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) (∅ : Finset (DevRef τ sig)) (V₂ m c) ∗ Pipeline.ownSems0 osem c ∗ semVal (barCell c) 0) := by
  rw [show (pdats m 0 c).Φ (Fin.last (Pipeline.pin (pcfgs (F := F)) adm 0).N) = atEnd c from Φ_last m c,
    show Pipeline.scopedRest (Pipeline.pin (pcfgs (F := F)) adm 0).spec c = (scratch c : sProp 𝕄) from scopedRest0_eq c,
    ownSems_eq, none_held]
  unfold atEnd closed spare
  iintro ⟨⟨Hb, Hs, Hr⟩, ⟨Hs0, Hr0⟩, Hscr, Hp⟩
  isplitl [Hscr]; · iexact Hscr
  isplitl [Hp]; · iexact Hp
  isplitr; · iempintro
  isplitr [Hb]
  · isplitl [Hs0 Hs]; · isplitl [Hs0] <;> iassumption
    isplitl [Hr0] <;> iassumption
  iexact Hb

/-- What a device owes inside the kernel lies above the windows' semaphores. -/
theorem owed_above (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · obtain ⟨h1, h2⟩ := sigOwed_pos c offs h
    exact ⟨by unfold L; rw [if_pos h1]; exact Finset.mem_singleton_self _, h2⟩
  · exact absurd h (Nat.lt_irrefl 0)

theorem stage_low (c : Dev nD) (w : Fin 3) (s : Fin (win0 w).nbuf) : lv ((c : Thread nD τ), .dma ((win0 w).sem s)) () ≤ 0 := by
  match w with
  | 0 => exact Nat.le_refl 0
  | 1 => exact Nat.le_refl 0
  | 2 => exact Nat.le_refl 0

/-- The one write-back fills the result. -/
theorem result_array (c : Dev nD) : (dat m c).arrAt 2 cfg0.N = outAt m c := by
  have h := (dat m c).arrAt_succ 2 t0_0
  rw [if_pos (flush0_2 t0_0)] at h
  refine h.trans (funext fun i => ?_)
  have e : ((cfg0.win 2).blk t0_0).view.emb i = i := by
    funext a
    apply Fin.ext
    show 0 * S768x512.size a + 1 * (i a).val = (i a).val
    rw [Nat.zero_mul, Nat.zero_add, Nat.one_mul]
  conv_lhs => rw [← e]
  rw [View.write_emb_of_mem _ _ (Finset.mem_univ _)]
  rfl

theorem arrays_after (c : Dev nD) (w : Fin 3) :
    (dat m c).arrAt w cfg0.N = V₂ m c (Proc.devRef .tc (Pipeline.arrRef spec0 w)) := by
  match w with
  | 0 => exact ((dat m c).arrAt_in 0 rfl _).trans (V₂_x m c).symm
  | 1 => exact ((dat m c).arrAt_in 1 rfl _).trans (V₂_row m c).symm
  | 2 => exact (result_array m c).trans (V₂_out m c).symm

set_option backward.isDefEq.respectTransparency.types false in
/-- The kernel. -/
def segKernel : ℝ𝕊 0 :=
  Pipeline.RegionSeg.ofTalk (pcfgs (F := F)) adm (pdats m) () defs₀ 𝒱₀ L lv 0 osem osem_ok
    ∅ gammaRef (Finset.empty_subset _) kit rfl (fun c => (body_ok m c).loose)
    (fun _ => 0) O₀ (fun c => (owed_first m c).trans (zero_add _).symm) (fun c => owed_last m c) (fun _ => rfl) (fun c w => share_whole m c w)
    (V₁ m) (V₂ m) (fun c b hb => by
      rw [Finset.sdiff_empty, Finset.mem_singleton] at hb
      subst hb
      exact V₂_gamma m c)
    (brought m) (fun c => semVal (barCell c) 0) (awake m) (fun c => semVal (barCell c) 0) (waking m) (start_from m) (end_to m)
    (fun c => by iintro H; imodintro; iexact H)
    (fun _ => 0)
    ⟨fun c w s => Finset.mem_singleton_self _, fun c w s => stage_low c w s, fun c t g i h => owed_above m c t g i h⟩
    (fun _ => iprop(emp))
    (fun c w => rfl) (fun c w => arrays_after m c w)

end Cert.NormProof

end
-- ==== Proof.Run.lean ====
/-
The launch funded and the whole run put together.
-/
module

public import proofs.«01_k».proof.Proof.Launch

@[expose] public section

noncomputable section

namespace Cert.NormProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)

variable {F : FTy → Type} [FloatOps F]

local notation "𝕄" => MT nD τ sig Unit (Elt F) ℕ UU ℕ

variable (m : (ℓ : Loc nD τ sig) → Buf (Elt F) ℓ) (ρ : Dev nD → PrngReg)

/-! ## The region among the segments -/

theorem kernel_pre (c : Dev nD) : iprop(StableHlo.held (c : Thread nD τ) bufs (V₁ m c) ∗ ride m c) ⊢ (segKernel m).pre c := by
  show _ ⊢ iprop(StableHlo.held (c.tc : Thread nD τ) (Pipeline.arrRefs (τ := τ) spec0) (V₁ m c) ∗ (∃ r, prngReg c r)
    ∗ (StableHlo.held (c.tc : Thread nD τ) gammaRef (V₁ m c) ∗ emp) ∗ brought m c ∗ ∃ Wd, owes (c : Thread nD τ) (0 + O₀ c) Wd)
  rw [arrays_eq, gamma_eq, bufs_eq, zero_add]
  unfold ride
  iintro ⟨⟨Hx, Hg, Hr, Ho⟩, HB, Hp, HO⟩
  isplitl [Hx Hr Ho]
  · isplitl [Hx]; · iexact Hx
    isplitl [Hr] <;> iassumption
  isplitl [Hp]; · iexact Hp
  isplitl [Hg]
  · isplitl [Hg]; · iexact Hg
    iempintro
  isplitl [HB] <;> iassumption

/-- What a device holds when the program is over. -/
abbrev done (c : Dev nD) : sProp 𝕄 := iprop(StableHlo.held (c : Thread nD τ) bufs (V₂ m c) ∗ semVal (barCell c) 0)

theorem kernel_post (c : Dev nD) : (segKernel m).post c
    ⊢ iprop(done m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) gammaRef (V₂ m c) ∗ emp) ∗ semVal (barCell c) 0 ∗ ∃ Wd, owes (c : Thread nD τ) (0 : CellTallies nD τ sig Unit) Wd) ⊢ _
  unfold done
  rw [arrays_eq, gamma_eq, bufs_eq]
  iintro ⟨⟨Hx, Hr, Ho⟩, -, ⟨Hg, -⟩, Hb, HO⟩
  isplitr [HO]
  · isplitr [Hb]
    · isplitl [Hx]; · iexact Hx
      isplitl [Hg]; · iexact Hg
      isplitl [Hr] <;> iassumption
    iexact Hb
  iexact HO

/-- The program as its two segments. -/
def segs : List (Pipeline.Seg (pcfgs (F := F)) adm (pdats m) () defs₀ 𝒱₀ L lv) := [.host (segHost m), .region (segKernel m)]

theorem main_is (c : Dev nD) : main (F := F) c = Pipeline.Seg.run (segs m) :=
  main_segs adm (pdats m) () 𝒱₀ L lv (segHost m) (segKernel m) rfl c

/-! ## Funding -/

/-- The ghost state allocated at launch. -/
def u₀ : UU :=
  (initOf (Pipeline.cells (Pipeline.pin (pcfgs (F := F)) adm) cellOf_inj) (Pipeline.launchToks (Pipeline.pin (pcfgs (F := F)) adm) cellOf_inj),
    launchOf barCells innerCells toks)

/-- A resource kept by one device. -/
def keptBy (c₀ : Dev nD) (X : sProp 𝕄) (c : Dev nD) : sProp 𝕄 := if c = c₀ then X else iprop(emp)

omit [FloatOps F] in
theorem keptBy_all (c₀ : Dev nD) (X : sProp 𝕄) : bigSep Finset.univ (keptBy c₀ X) = X := by
  rw [bigSep_univ_at _ c₀, bigSep_congr (s := Finset.univ.erase c₀) (Ψ := fun _ => (BI.emp : sProp 𝕄))
      fun c hc => by unfold keptBy; rw [if_neg (Finset.ne_of_mem_erase hc)]; rfl, BI.bigSep_emp_const]
  unfold keptBy
  rw [if_pos rfl]
  exact BI.equiv_iff.mp sep_emp

/-- The protocol's ghost state, kept by device 0 until it is dealt. -/
def ghost₀ : Dev nD → sProp 𝕄 := keptBy 0 (BI.own (ER (launchOf barCells innerCells toks)))

/-- The records of a launch on any cells. -/
def recordsOf (S Sd : Finset (GSem nD τ sig)) (κ : GSem nD τ sig → ℕ) : sProp 𝕄 :=
  iprop((bigSep (S ∪ Sd) fun g => cellInv ER (Rd m) (κ g) g) ∗ bigSep S fun g => reached ER g 0)

omit [FloatOps F] in
/-- A family over the barrier cells is one over the devices. -/
theorem over_bar (Φ : GSem nD τ sig → sProp 𝕄) : bigSep barCells Φ = bigSep Finset.univ fun c : Dev nD => Φ (barCell c) :=
  bigSep_map (s := Finset.univ) barEmb (Φ := Φ)

omit [FloatOps F] in
/-- A family over the inner cells is two over devices and offsets. -/
theorem over_inner (Φ : GSem nD τ sig → sProp 𝕄) : bigSep innerCells Φ
    = iprop((bigSep Finset.univ fun dk : Dev nD × Off => Φ (sendCell dk.1 dk.2)) ∗ bigSep Finset.univ fun dk : Dev nD × Off => Φ (recvCell dk.1 dk.2)) := by
  have e := bigSep_union send_recv_disjoint (Φ := Φ)
  have es : bigSep sendCells Φ = bigSep Finset.univ fun dk : Dev nD × Off => Φ (sendCell dk.1 dk.2) := bigSep_map (s := Finset.univ) sendEmb (Φ := Φ)
  have er : bigSep recvCells Φ = bigSep Finset.univ fun dk : Dev nD × Off => Φ (recvCell dk.1 dk.2) := bigSep_map (s := Finset.univ) recvEmb (Φ := Φ)
  rw [es, er] at e
  exact e

omit [FloatOps F] in
/-- A family over all cells. -/
theorem over_cells (Φ : GSem nD τ sig → sProp 𝕄) : bigSep (barCells ∪ innerCells) Φ = iprop(bigSep barCells Φ ∗ bigSep innerCells Φ) :=
  bigSep_union bar_inner_disjoint

omit [FloatOps F] in
theorem by_device (Φ : Dev nD → Off → sProp 𝕄) :
    (bigSep Finset.univ fun dk : Dev nD × Off => Φ dk.1 dk.2) = bigSep Finset.univ fun c : Dev nD => bigSep Finset.univ fun k : Off => Φ c k :=
  bigSep_univ_prod _

/-- They are the records in the form the kernel reads them. -/
theorem records_base (κ : GSem nD τ sig → ℕ) : recordsOf m barCells innerCells κ ⊢ Base m κ := by
  unfold recordsOf Base
  rw [over_cells, over_bar, over_inner, over_bar]
  iintro ⟨⟨HB, HS, HR⟩, Hr⟩
  isplitl [HB Hr]
  · iapply bigSep_pair
    isplitl [HB] <;> iassumption
  isplitl [HR] <;> iassumption

/-- What a device has at launch beside the protocol's ghost state. -/
def luggage (c : Dev nD) : sProp 𝕄 :=
  iprop(StableHlo.held (c : Thread nD τ) bufs (V₀ m c) ∗ credits c ∗ owes (c : Thread nD τ) (O₀ c) ∅ ∗ ∃ r, prngReg c r)

abbrev ready (c : Dev nD) : sProp 𝕄 := iprop(StableHlo.held (c : Thread nD τ) bufs (V₀ m c) ∗ ride m c)

theorem ready_from (κ : GSem nD τ sig → ℕ) (c : Dev nD) : iprop(Base m κ ∗ (own₀ c ∗ luggage m c)) ⊢ ready m c := by
  unfold luggage ready ride brought
  iintro ⟨#HB, Hown, Hh, Hcr, HO, Hp⟩
  isplitl [Hh]; · iexact Hh
  isplitl [Hown Hcr]
  · isplitl [Hown]
    · iexists κ
      isplitr; · iexact HB
      iexact Hown
    iexact Hcr
  isplitl [Hp]; · iexact Hp
  iexists ∅
  iexact HO

/-- One device's share of the launch, sorted. -/
theorem sorted (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ ghost₀ c)
    ⊢ (iprop(luggage m c ∗ (semVal (barCell c) 0 ∗ ghost₀ c)) : sProp 𝕄) := by
  rw [show unscopedBufs c (fun b => m ((c : Thread nD τ).loc b)) = StableHlo.held (c : Thread nD τ) bufs (V₀ m c) from bufs_whole c (V₀ m c),
    barrier_sem]
  unfold luggage
  iintro ⟨Hh, Hb, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c)
    iexact Hp
  isplitl [Hb] <;> iassumption

/-- The tokens, positions and rights dealt to the devices. -/
theorem own_dealt :
    iprop((bigSep barCells fun g => (atPos ER g 0 ∅ 0 : sProp 𝕄)) ∗ (bigSep innerCells fun g => (openTok ER g : sProp 𝕄))
        ∗ bigSep toks fun x => (dutyTok ER x.1 x.2.1 x.2.2 : sProp 𝕄))
      ⊢ bigSep Finset.univ fun c : Dev nD => (own₀ c : sProp 𝕄) := by
  unfold own₀
  rw [over_bar, over_inner, by_device fun c k => openTok ER (sendCell c k), by_device fun c k => openTok ER (recvCell c k),
    bigSep_sep', bigSep_sep', bigSep_sep']
  iintro ⟨Hat, ⟨HoS, HoR⟩, Htok⟩
  isplitl [Hat]; · iexact Hat
  isplitl [HoS]; · iexact HoS
  isplitl [HoR]; · iexact HoR
  iapply (toks_dealt (F := F))
  iexact Htok

/-- The protocol's ghost state on any cells, allocated. -/
theorem allocated (S Sd : Finset (GSem nD τ sig)) (T : Finset Tok) (hSd : Disjoint S Sd) :
    iprop((bigSep S fun g => (semVal g 0 : sProp 𝕄)) ∗ BI.own (ER (launchOf S Sd T)))
      ⊢ (|={Set.univ}=> ∃ κ, recordsOf m S Sd κ ∗ (bigSep S fun g => atPos ER g 0 ∅ 0) ∗ (bigSep Sd fun g => openTok ER g)
          ∗ bigSep T fun x => dutyTok ER x.1 x.2.1 x.2.2 : sProp 𝕄) := by
  iintro H
  imod (Rounds.fund_launch ER (Rd m) hSd (fun g _ h => h) T) $$ H with ⟨%κ, -, Hinv, Hr, Hat, Hopen, Htok⟩
  imodintro
  iexists κ
  isplitl [Hinv Hr]
  · unfold recordsOf
    isplitl [Hinv] <;> iassumption
  isplitl [Hat]; · iexact Hat
  isplitl [Hopen] <;> iassumption

/-- The protocol's ghost state, allocated and dealt. -/
theorem allotted :
    iprop((bigSep Finset.univ fun c : Dev nD => (semVal (barCell c) 0 : sProp 𝕄)) ∗ BI.own (ER (launchOf barCells innerCells toks)))
      ⊢ (|={Set.univ}=> ∃ κ, Base m κ ∗ bigSep Finset.univ fun c : Dev nD => own₀ c : sProp 𝕄) := by
  rw [← over_bar fun g => (semVal g 0 : sProp 𝕄)]
  refine (allocated m barCells innerCells toks bar_inner_disjoint).trans ?_
  iintro >⟨%κ, HR, H⟩
  imodintro
  iexists κ
  isplitl [HR]
  · iapply (records_base m κ); iexact HR
  iapply (own_dealt (F := F)); iexact H

omit [FloatOps F] in
theorem ghost_out : bigSep Finset.univ (ghost₀ (F := F)) ⊢ (BI.own (ER (launchOf barCells innerCells toks)) : sProp 𝕄) := by
  unfold ghost₀
  rw [keptBy_all]

/-- The launch, funded: every device ready. -/
theorem funded :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ ghost₀ c)) ∗ levAts L lv)
      ⊢ (|={Set.univ}=> bigSep Finset.univ (ready m) : sProp 𝕄) := by
  refine (sep_mono_left (bigSep_mono fun c _ => sorted m ρ c)).trans ?_
  rw [bigSep_sep', bigSep_sep']
  iintro ⟨⟨Hlug, Hb, HG⟩, -⟩
  ihave HG := (ghost_out (F := F)) $$ HG
  imod (allotted m) $$ [Hb HG] with ⟨%κ, #HB, Hown⟩
  · isplitl [Hb] <;> iassumption
  imodintro
  iapply (bigSep_with_persistent (R := Base m κ) (Φ := fun c => iprop(own₀ c ∗ luggage m c)) fun c _ => ready_from m κ c)
  isplitr; · iexact HB
  iapply bigSep_pair
  isplitl [Hown] <;> iassumption

/-! ## The run -/

theorem lasting_sem : ∀ sm : SemLoc sig, sm.isScoped .tc = false → sm = .reg barS := by decide

theorem V₁_x (c : Dev nD) : V₁ m c main_arg0 = m ((c : Thread nD τ).loc main_arg0) := V_main_arg0 m c
theorem V₁_gamma (c : Dev nD) : V₁ m c main_arg1 = m ((c : Thread nD τ).loc main_arg1) := V_main_arg1 m c

set_option backward.isDefEq.respectTransparency.types false in
/-- From any memory with all semaphores at zero, every fair run of the program on the thirty-two devices ends; at the end
    each device's arguments are as they were, its result is its block of the normalised array, and every semaphore is
    at zero again. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = outAt m c) ∧ r.2.sem = fun _ => 0) :=
  Pipeline.θ_run_regions_kit_sems (pcfgs (F := F)) adm (pdats m) () cellOf_inj EP defs₀ 𝒱₀ L lv m ρ main (segs m)
    (fun c Q => by rw [main_is m c])
    (by simp only [segs, Pipeline.Seg.pipes_host, Pipeline.Seg.pipes_region, Pipeline.Seg.pipes_nil]; decide)
    (O₀ := O₀) (hL := L_of_ne) (G := ghost₀) (u₀ := u₀)
    (hu₀ := by
      unfold u₀ ghost₀
      iintro Hu
      ihave H := (ownU_pair _ _) $$ Hu
      icases H with ⟨HP, HX⟩
      imodintro
      isplitl [HP]; · iexact HP
      rw [keptBy_all]
      iexact HX)
    (T₀ := ready m) (Tₙ := done m)
    (hch := ⟨fun c => .rfl, fun c => kernel_pre m c, fun c => kernel_post m c⟩)
    (hinit := funded m ρ)
    (QY := fun c s => (s.mem ((c : Thread nD τ).loc main_arg0) = V₂ m c main_arg0 ∧ s.mem ((c : Thread nD τ).loc main_arg1) = V₂ m c main_arg1
        ∧ s.mem ((c : Thread nD τ).loc main_v2) = V₂ m c main_v2)
      ∧ s.sem (barCell c) = 0)
    (hfin := fun c s' => by
      dsimp only [done]
      rw [bufs_eq]
      iintro ⟨⟨⟨Hx, Hg, -, Ho⟩, Hb⟩, HSI⟩
      icombine HSI Hx gives %hx
      icombine HSI Hg gives %hg
      icombine HSI Ho gives %ho
      icombine HSI Hb gives %hb
      imodintro
      isplitr
      · ipureintro
        exact ⟨⟨Buf.eq_of_forall_mem_univ hx, Buf.eq_of_forall_mem_univ hg, Buf.eq_of_forall_mem_univ ho⟩, by simpa using hb⟩
      iexact HSI)
    (hQ := fun s h hs => ⟨fun c => by
        obtain ⟨⟨hx, hg, ho⟩, -⟩ := h c
        rw [V₂_x, V₁_x] at hx
        rw [V₂_gamma, V₁_gamma] at hg
        rw [V₂_out] at ho
        exact ⟨hx, hg, ho⟩,
      sem_eq_zero hs fun c sm hsm => by
        obtain rfl := lasting_sem sm hsm
        exact (h c).2⟩)

end Cert.NormProof

end
-- ==== Proof.Value.lean ====
/-
The value: what the ring of devices stores is the whole-array RMS norm, block by block.

Everything here is read at the extended reals. The kernel's result at row `a` and column `b` is
`(x · g) · (1 / √(mean + ε))` with the mean taken from thirty-two partial sums; the reference's is `(g · x) / √(mean + ε)`
with the mean taken from one sum. The partial sums are over the devices, each once, in another order on every device, so
they add up to the one sum; and the root is never zero, so multiplying by its reciprocal is dividing by it.
-/
module

public import proofs.«01_k».proof.Proof.Rows
public import proofs.«01_k».proof.Proof.Gen.ReferenceIdeal.Run
public import Idealize.ShloMosaic.PureOps.Ideal.Laws
public import Idealize.ShloMosaic.Lib.ValueIdx
public import Idealize.ShloMosaic.Lib.Pipeline.Value
public import Idealize.ShloMosaic.Lib.Layout

@[expose] public section

noncomputable section

namespace Cert.NormProof

open Idealize.ShloMosaic Idealize.ShloMosaic.TcCoe
open Idealize.ShloMosaic.ValueIdx
open scoped BigOperators

/-! ## Numbers -/

/-- The divisor of the mean, 16384, as its word denotes it. -/
abbrev count : EReal := Ideal.ofBits .f32 0x46800000#32
/-- The number added under the root, as its word denotes it. -/
abbrev tiny : EReal := Ideal.ofBits .f32 0x3727C5AC#32

theorem one_word : Ideal.ofBits .f32 0x3F800000#32 = 1 := by
  simp [Ideal.ofBits, Ideal.ieee]
  rw [← EReal.coe_mul, ← EReal.coe_one, EReal.coe_eq_coe_iff]
  norm_num

theorem count_pos : 0 < count := by
  simp [count, Ideal.ofBits, Ideal.ieee]
  rw [← EReal.coe_mul]
  exact EReal.coe_pos.mpr (by norm_num)

theorem tiny_pos : 0 < tiny := by
  simp [tiny, Ideal.ofBits, Ideal.ieee]
  rw [← EReal.coe_mul]
  exact EReal.coe_pos.mpr (by norm_num)

/-- A square is not negative, an infinity's included. -/
theorem square_nonneg (x : EReal) : 0 ≤ x * x := by
  rw [EReal.mul_nonneg_iff]
  rcases le_total 0 x with h | h
  · exact .inl ⟨h, h⟩
  · exact .inr ⟨h, h⟩

/-- The root of a positive number is not zero. -/
theorem root_ne_zero {x : EReal} (h : 0 < x) : Ideal.sqrt x ≠ 0 := by
  induction x with
  | bot => simp at h
  | top => exact (show (⊤ : EReal) ≠ 0 by simp)
  | coe r =>
    have hr : 0 < r := EReal.coe_pos.mp h
    have e : Ideal.sqrt (r : EReal) = (Real.sqrt r : EReal) := if_neg hr.not_gt
    rw [e]
    exact EReal.coe_ne_zero.mpr (Real.sqrt_pos.mpr hr).ne'

/-- The mean of a sum that is not negative, and `tiny` more, is positive. -/
theorem under_root_pos {s : EReal} (h : 0 ≤ s) : 0 < Ideal.div s count + tiny := by
  have e : Ideal.div s count = s * count⁻¹ := if_neg count_pos.ne'
  rw [e]
  exact lt_of_lt_of_le tiny_pos (le_add_of_nonneg_left (EReal.mul_nonneg h (EReal.inv_nonneg_of_nonneg count_pos.le)))

/-- Multiplying by the reciprocal of a number that is not zero is dividing by it. -/
theorem mul_reciprocal (x g : EReal) {r : EReal} (h : r ≠ 0) : x * g * Ideal.div 1 r = Ideal.div (g * x) r := by
  have e1 : Ideal.div 1 r = 1 * r⁻¹ := if_neg h
  have e2 : Ideal.div (g * x) r = g * x * r⁻¹ := if_neg h
  rw [e1, e2, one_mul, mul_comm x g]

/-! ## The columns of the whole array -/

/-- Column `k` of device `d`'s block, as a column of the whole array. -/
def column (d : Fin 32) (k : Fin 512) : Fin 16384 := ⟨d.val * 512 + k.val, by omega⟩

/-- A sum over all columns is the sum over the devices of the sums over their columns, the devices taken in the order
    in which device `c`'s rows hold them. -/
theorem sum_columns (c : Fin 32) (f : Fin 16384 → EReal) :
    ∑ j : Fin 32, ∑ k : Fin 512, f (column (owner j c) k) = ∑ q : Fin 16384, f q := by
  rw [Function.Bijective.sum_comp (owner_bijective c) (fun d => ∑ k : Fin 512, f (column d k)), ← Fintype.sum_prod_type']
  refine Fintype.sum_equiv (finProdFinEquiv (m := 32) (n := 512)) _ _ (fun p => congrArg f (Fin.ext ?_))
  show p.1.val * 512 + p.2.val = p.2.val + 512 * p.1.val
  omega

/-! ## The kernel's result, element by element -/

section Kernel

open Cert.KernelIdeal Cert.KernelIdeal.Gen

/-- The sum along a row of a block. -/
theorem sum_row (v : FVec Ideal S768x512 .f32) (acc : BitVec 32) (h : S768x512.Reduces [1] S768) (hφ : FKind.Formats .f32)
    (hacc : acc = FKind.add.neutral .f32 hφ) (a : Fin 768) :
    multiReduction .add [1] S768 v acc h hφ hacc (ix1 a) = ∑ k : Fin 512, v (ix2 a k) :=
  (Ideal.multiReduction_add_single v acc h hφ hacc (ix1 a)).trans
    (Finset.sum_congr rfl fun k _ => congrArg v (by funext d; match d with | 0 => rfl | 1 => rfl))

/-- The sum down a column of the scratch. -/
theorem sum_down (v : FVec Ideal S32x768 .f32) (acc : BitVec 32) (h : S32x768.Reduces [0] S768) (hφ : FKind.Formats .f32)
    (hacc : acc = FKind.add.neutral .f32 hφ) (a : Fin 768) :
    multiReduction .add [0] S768 v acc h hφ hacc (ix1 a) = ∑ j : Fin 32, v (ix2 j a) :=
  (Ideal.multiReduction_add_single v acc h hφ hacc (ix1 a)).trans
    (Finset.sum_congr rfl fun k _ => congrArg v (by funext d; match d with | 0 => rfl | 1 => rfl))

theorem pay1_eq (x : Vec Ideal S768x512 .bf16) : (k0_pay1 (F := Ideal) x : S768x512.Idx → EReal) = x := by
  show shapeCast S768x512 x shapeCasts_S768x512_S768x512 = x
  exact shapeCast_self x _

/-- A device's row of sums of squares. -/
theorem pay2_apply (x : Vec Ideal S768x512 .bf16) (a : Fin 768) :
    k0_pay2 (F := Ideal) x (ix2 (0 : Fin 1) a) = ∑ k : Fin 512, ((x (ix2 a k) : EReal) * x (ix2 a k)) := by
  unfold k0_pay2
  refine (shapeCast_apply _ _ _ (ix1 a) ?_).trans ((sum_row _ _ _ _ _ a).trans ?_)
  · rw [Shape.rowMajor_val_one, Shape.rowMajor_val_two]; show a.val = 0 * 768 + a.val; omega
  · refine Finset.sum_congr rfl fun k _ => ?_
    show (k0_pay1 (F := Ideal) x (ix2 a k) : EReal) * k0_pay1 (F := Ideal) x (ix2 a k) = _
    rw [pay1_eq]

/-- The block of `x` times the block of `gamma`. -/
theorem pay3_apply (y : FVec Ideal S768x512 .f32) (g : Vec Ideal S1x512 .bf16) (a : Fin 768) (b : Fin 512) :
    k0_pay3 (F := Ideal) y g (ix2 a b) = (y (ix2 a b) : EReal) * g (ix2 (0 : Fin 1) b) := by
  unfold k0_pay3
  show (y (ix2 a b) : EReal) * broadcastTo S768x512 (shapeCast S1x512 g shapeCasts_S1x512_S1x512) broadcasts_S1x512_S768x512 (ix2 a b) = _
  rw [shapeCast_self, broadcastTo_apply _ _ _ (ix2 (0 : Fin 1) b) (fun d => by match d with | 0 => rfl | 1 => rfl)]

/-- What is stored, from the product and the scratch. -/
theorem pay4_apply (y : FVec Ideal S768x512 .f32) (p : Vec Ideal S32x768 .f32) (a : Fin 768) (b : Fin 512) :
    k0_pay4 (F := Ideal) y p (ix2 a b)
      = (y (ix2 a b) : EReal) * Ideal.div 1 (Ideal.sqrt (Ideal.div (∑ j : Fin 32, (p (ix2 j a) : EReal)) count + tiny)) := by
  unfold k0_pay4
  show (y (ix2 a b) : EReal) * broadcastTo S768x512 (shapeCast S768x1 _ shapeCasts_S768_S768x1) broadcasts_S768x1_S768x512 (ix2 a b) = _
  rw [broadcastTo_apply _ _ _ (ix2 a (0 : Fin 1)) (fun d => by match d with | 0 => rfl | 1 => rfl),
    shapeCast_apply _ _ _ (ix1 a) (by
      rw [Shape.rowMajor_val_one, Shape.rowMajor_val_two]; show a.val = a.val * 1 + 0; omega)]
  show (y (ix2 a b) : EReal) * Ideal.div (Ideal.ofBits .f32 0x3F800000#32)
    (Ideal.sqrt (Ideal.div (multiReduction (F := Ideal) (φ := .f32) .add [0] S768 p 0x00000000#32 reduces_S32x768_S768 (.inl rfl) rfl (ix1 a)) count + tiny)) = _
  rw [one_word]
  exact congrArg (fun s : EReal => (y (ix2 a b) : EReal) * Ideal.div 1 (Ideal.sqrt (Ideal.div s count + tiny))) (sum_down p _ _ _ _ a)

variable (m : (ℓ : Loc nD τ sig) → Buf (Elt Ideal) ℓ)

/-- The block of `x` that the kernel loads is the argument. -/
theorem xblk_eq (c : Dev nD) : xblk m c = m ((c : Thread nD τ).loc main_arg0) := by
  rw [← V_main_arg0 m c]
  funext i
  have e : ((cfg0.win 0).blk t0_0).view.emb i = i := by
    funext a
    apply Fin.ext
    show 0 * S768x512.size a + 1 * (i a).val = (i a).val
    rw [Nat.zero_mul, Nat.zero_add, Nat.one_mul]
  exact congrArg (V m c main_arg0) e

/-- The one-row array that the kernel reads `gamma` from is the argument with an axis of one added. -/
theorem gamma_row (c : Dev nD) :
    V m c main_v1 = shapeCast S1x512 (m ((c : Thread nD τ).loc main_arg1) : S512.Idx → EReal) shapeCasts_S512_S1x512 := by
  rfl

/-- The block of `gamma` that the kernel loads, element by element. -/
theorem gblk_apply (c : Dev nD) (b : Fin 512) :
    gblk m c (ix2 (0 : Fin 1) b) = m ((c : Thread nD τ).loc main_arg1) (ix1 b) := by
  have e : ((cfg0.win 1).blk t0_0).view.emb (ix2 (0 : Fin 1) b) = ix2 (0 : Fin 1) b := by
    funext a
    apply Fin.ext
    show 0 * S1x512.size a + 1 * (ix2 (0 : Fin 1) b a).val = (ix2 (0 : Fin 1) b a).val
    rw [Nat.zero_mul, Nat.zero_add, Nat.one_mul]
  refine (congrArg (V m c main_v1) e).trans ?_
  rw [gamma_row]
  refine shapeCast_apply _ _ _ (ix1 b) ?_
  rw [Shape.rowMajor_val_one, Shape.rowMajor_val_two]; show b.val = 0 * 512 + b.val; omega

/-- The scratch, element by element. -/
theorem sums_apply (c : Dev nD) (j : Fin 32) (a : Fin 768) :
    sums m c (ix2 j a) = ∑ k : Fin 512, ((xblk m (owner j c) (ix2 a k) : EReal) * xblk m (owner j c) (ix2 a k)) :=
  pay2_apply (xblk m (owner j c)) a

/-- The result of device `c`, element by element. -/
theorem outAt_apply (c : Dev nD) (a : Fin 768) (b : Fin 512) :
    outAt m c (ix2 a b) = (xblk m c (ix2 a b) : EReal) * gblk m c (ix2 (0 : Fin 1) b)
      * Ideal.div 1 (Ideal.sqrt (Ideal.div
        (∑ j : Fin 32, ∑ k : Fin 512, ((xblk m (owner j c) (ix2 a k) : EReal) * xblk m (owner j c) (ix2 a k))) count + tiny)) := by
  unfold outAt
  rw [pay4_apply, pay3_apply, pay1_eq]
  simp only [sums_apply]

end Kernel

/-! ## The reference's result, element by element -/

section Reference

open Cert.ReferenceIdeal Cert.ReferenceIdeal.Gen

/-- The reference's result as the composition of its operations, of the whole arrays. -/
def whole (x : S768x16384.Idx → EReal) (g : S16384.Idx → EReal) : FVec Ideal S768x16384 .f32 :=
  Host.divf (F := Ideal) (φ := .f32) (mulf (F := Ideal) (φ := .f32) (broadcastInDim S768x16384 ![0, 1] bcast_S1x16384_S768x16384_0_1 (broadcastInDim S1x16384 ![1] bcast_S16384_S1x16384_1 (extf (F := Ideal) (φ := .bf16) .f32 g bitsLt_bf16_f32))) (extf (F := Ideal) (φ := .bf16) .f32 x bitsLt_bf16_f32)) (broadcastInDim S768x16384 ![0, 1] bcast_S768x1_S768x16384_0_1 (Host.sqrt (F := Ideal) (φ := .f32) (addf (F := Ideal) (φ := .f32) (Host.divf (F := Ideal) (φ := .f32) (broadcastInDim S768x1 ![0] bcast_S768_S768x1_0 (Host.reduceAdd (F := Ideal) (φ := .f32) (mulf (F := Ideal) (φ := .f32) (extf (F := Ideal) (φ := .bf16) .f32 x bitsLt_bf16_f32) (extf (F := Ideal) (φ := .bf16) .f32 x bitsLt_bf16_f32)) (constant S_ .f32 0x00000000#32) reducesTo_S768x16384_S768_d1 h_S_)) (broadcastInDim S768x1 ![] bcast_S_S768x1 (constant S_ .f32 0x46800000#32))) (broadcastInDim S768x1 ![] bcast_S_S768x1 (constant S_ .f32 0x3727C5AC#32)))))

theorem reduces_whole : S768x16384.Reduces [1] S768 := by decide

/-- The sum along a row of the whole array. -/
theorem sum_whole_row (v : FVec Ideal S768x16384 .f32) (a : Fin 768) :
    Host.reduceAdd (F := Ideal) (φ := .f32) v (constant S_ .f32 0x00000000#32) reducesTo_S768x16384_S768_d1 h_S_ (ix1 a)
      = ∑ q : Fin 16384, (v (ix2 a q) : EReal) := by
  refine (Ideal.hostReduceAdd_single reducesTo_S768x16384_S768_d1 reduces_whole v _ (ix1 a)).trans ?_
  show Ideal.ofBits .f32 0x00000000#32 + _ = _
  rw [Ideal.ofBits_zero_f32, zero_add]
  exact Finset.sum_congr rfl fun k _ => congrArg v (by funext d; match d with | 0 => rfl | 1 => rfl)

/-- The reference's result at a row and a column. -/
theorem whole_apply (x : S768x16384.Idx → EReal) (g : S16384.Idx → EReal) (a : Fin 768) (q : Fin 16384) :
    whole x g (ix2 a q)
      = Ideal.div (g (ix1 q) * x (ix2 a q)) (Ideal.sqrt (Ideal.div (∑ k : Fin 16384, x (ix2 a k) * x (ix2 a k)) count + tiny)) := by
  unfold whole
  show Ideal.div (broadcastInDim S768x16384 ![0, 1] bcast_S1x16384_S768x16384_0_1 (broadcastInDim S1x16384 ![1] bcast_S16384_S1x16384_1 g) (ix2 a q) * x (ix2 a q))
    (broadcastInDim (s := S768x1) S768x16384 ![0, 1] bcast_S768x1_S768x16384_0_1 _ (ix2 a q)) = _
  rw [broadcastInDim_apply _ _ _ (ix2 a q) (ix2 (0 : Fin 1) q) (fun d => by match d with | 0 => rfl | 1 => rfl),
    broadcastInDim_apply _ _ _ (ix2 (0 : Fin 1) q) (ix1 q) (fun d => by match d with | 0 => rfl),
    broadcastInDim_apply _ _ _ (ix2 a q) (ix2 a (0 : Fin 1)) (fun d => by match d with | 0 => rfl | 1 => rfl)]
  show Ideal.div _ (Ideal.sqrt (Ideal.div (broadcastInDim (s := S768) S768x1 ![0] bcast_S768_S768x1_0 _ (ix2 a (0 : Fin 1))) count + tiny)) = _
  rw [broadcastInDim_apply _ _ _ (ix2 a (0 : Fin 1)) (ix1 a) (fun d => by match d with | 0 => rfl), sum_whole_row]
  rfl

end Reference

/-! ## The two agree -/

section Agree

open Cert.KernelIdeal Cert.KernelIdeal.Gen

/-- Where every device holds its columns of the whole arrays, it stores its columns of the whole result. -/
theorem block_of_whole (m : (ℓ : Loc nD τ sig) → Buf (Elt Ideal) ℓ)
    (x : (⟨2, ![768, 16384]⟩ : Shape).Idx → EReal) (g : (⟨1, ![16384]⟩ : Shape).Idx → EReal)
    (hx : ∀ c : Dev nD, m ((c : Thread nD τ).loc main_arg0) = Layout.block ⟨2, ![768, 512]⟩ ⟨2, ![768, 16384]⟩ 1 32 c x)
    (hg : ∀ c : Dev nD, m ((c : Thread nD τ).loc main_arg1) = Layout.block ⟨1, ![512]⟩ ⟨1, ![16384]⟩ 0 32 c g) (c : Dev nD) :
    outAt m c = Layout.block ⟨2, ![768, 512]⟩ ⟨2, ![768, 16384]⟩ 1 32 c (whole x g) := by
  have ex : ∀ (d : Dev nD) (a : Fin 768) (k : Fin 512), xblk m d (ix2 a k) = x (ix2 a (column d k)) := fun d a k => by
    rw [xblk_eq, hx]
    exact congrArg x (by funext i; match i with | 0 => rfl | 1 => rfl)
  have eg : ∀ k : Fin 512, gblk m c (ix2 (0 : Fin 1) k) = g (ix1 (column c k)) := fun k => by
    rw [gblk_apply, hg]
    exact congrArg g (by funext i; match i with | 0 => rfl)
  funext i
  obtain ⟨a, b, rfl⟩ : ∃ (a : Fin 768) (b : Fin 512), i = ix2 a b := ⟨i 0, i 1, eq_ix2 i⟩
  have ew : Layout.block ⟨2, ![768, 512]⟩ ⟨2, ![768, 16384]⟩ 1 32 c (whole x g) (by decide) (ix2 a b) = whole x g (ix2 a (column c b)) :=
    congrArg (whole x g) (by funext i; match i with | 0 => rfl | 1 => rfl)
  rw [ew, outAt_apply, whole_apply]
  simp only [ex, eg]
  rw [sum_columns c fun q => x (ix2 a q) * x (ix2 a q)]
  exact mul_reciprocal _ _ (root_ne_zero (under_root_pos (Finset.sum_nonneg fun q _ => square_nonneg _)))

end Agree

end Cert.NormProof

end
-- ==== Proof.lean ====
/-
The proof of `Cert.Claim`.

The run of the ring of devices is proved once, over any float values (`Cert.NormProof.run_main`, Proof/Run.lean), and read
three times here: for the kernel at bit patterns, for its idealization at the extended reals, and for the value. The
reference's run is the generated one. That the two values agree is Proof/Value.lean.
-/
module

public import proofs.«01_k».proof.Proof.Run
public import proofs.«01_k».proof.Proof.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The kernel, over any float values: it ends on every device, its arguments are as they were, and no semaphore holds a
    count. -/
theorem ends {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => ⟨(h.1 c).1, (h.1 c).2.1⟩, h.2⟩)
    (Cert.NormProof.run_main m ρ)

/-- The kernel and its idealization have one body. -/
theorem same_body : Cert.KernelIdeal.defs₀ (F := Bits) = Cert.Kernel.defs₀ (F := Bits) := by
  refine congrArg Defs.onTc (funext fun l => funext fun a => ?_)
  match l, a with
  | 0, (_, _) => rfl

/-- So a call means the same in both. -/
theorem same_calls : Cert.KernelIdeal.defs (F := Bits) = Cert.Kernel.defs (F := Bits) :=
  congrArg (Pipeline.defs Cert.KernelIdeal.pcfgs) same_body

/-- The kernel at bit patterns. -/
theorem frame_kernel : Cert.quiescent_Kernel := fun m ρ _ => by
  have h := ends (F := Bits) m ρ
  rw [same_calls] at h
  exact h

/-- Its idealization, at the extended reals. -/
theorem frame_kernel_ideal : Cert.quiescent_KernelIdeal := fun m ρ _ => ends (F := Ideal) m ρ

/-- The same of the reference, which declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Each device ends with its columns of the whole-array RMS norm. -/
theorem value : Cert.algebraic_KernelIdeal_ReferenceIdeal := by
  intro m ρ m' ρ' _ hagree
  refine ⟨Cert.NormProof.whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h.1 c).2.2.trans (Cert.NormProof.block_of_whole m _ _ (fun d => (hagree d).1) (fun d => (hagree d).2) c),
        (h.1 c).1, (h.1 c).2.1⟩)
      (Cert.NormProof.run_main (F := Ideal) m ρ)
  · exact (θ_run Cert.ReferenceIdeal.defs _ _).mono (fun _ h => h 0) (Cert.ReferenceIdeal.Value.run (F := Ideal) m' ρ')

/-- Everything the certificate claims. -/
theorem claim : Cert.Claim := ⟨Cert.Kernel.Gen.facts, Cert.KernelIdeal.Gen.facts, Cert.ReferenceIdeal.Gen.facts,
  frame_kernel, frame_kernel_ideal, frame_reference, trivial, value⟩

end Cert.Proof

end
